-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S32768x128 : Shape := ⟨2, ![32768, 128]⟩
abbrev S1x1024 : Shape := ⟨2, ![1, 1024]⟩
abbrev S128x1024 : Shape := ⟨2, ![128, 1024]⟩
abbrev S128 : Shape := ⟨1, ![128]⟩
abbrev S1x128 : Shape := ⟨2, ![1, 128]⟩
abbrev S1x64 : Shape := ⟨2, ![1, 64]⟩
abbrev S64x128 : Shape := ⟨2, ![64, 128]⟩
abbrev S64x64 : Shape := ⟨2, ![64, 64]⟩
abbrev S64x1 : Shape := ⟨2, ![64, 1]⟩
abbrev S64 : Shape := ⟨1, ![64]⟩
abbrev S_ : Shape := ⟨0, ![]⟩
abbrev S1 : Shape := ⟨1, ![1]⟩
abbrev S1x8192 : Shape := ⟨2, ![1, 8192]⟩

abbrev nBuf : Table → Nat
  | .hbm => 8
  | .local .tc .vmem => 5
  | .local .scScalar .smem => 1
  | _ => 0

abbrev bufTy : (tb : Table) → Fin (nBuf tb) → BufTy
  | .hbm, ⟨0, _⟩ => ⟨S32768x128, .f32⟩
  | .hbm, ⟨1, _⟩ => ⟨S1x1024, .f32⟩
  | .hbm, ⟨2, _⟩ => ⟨S128x1024, .f32⟩
  | .hbm, ⟨3, _⟩ => ⟨S128, .f32⟩
  | .hbm, ⟨4, _⟩ => ⟨S1x128, .f32⟩
  | .hbm, ⟨5, _⟩ => ⟨S1x64, .i32⟩
  | .hbm, ⟨6, _⟩ => ⟨S64x128, .f32⟩
  | .hbm, ⟨7, _⟩ => ⟨S1x8192, .f32⟩
  | .local .tc .vmem, ⟨0, _⟩ => ⟨S64x128, .f32⟩
  | .local .tc .vmem, ⟨1, _⟩ => ⟨S1x1024, .f32⟩
  | .local .tc .vmem, ⟨2, _⟩ => ⟨S128x1024, .f32⟩
  | .local .tc .vmem, ⟨3, _⟩ => ⟨S1x128, .f32⟩
  | .local .tc .vmem, ⟨4, _⟩ => ⟨S1x64, .i32⟩
  | .local .scScalar .smem, ⟨0, _⟩ => ⟨S64, .i32⟩
  | _, _ => ⟨S32768x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scs : Ref sig .scScalar := ⟨.hbm, 0, rfl⟩
abbrev main_v1_scs : Ref sig .scScalar := ⟨.hbm, 5, rfl⟩
abbrev main_v2_scs : Ref sig .scScalar := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_scratch0 : Ref sig .scScalar := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![1], ![false]⟩

def k1_off1 (v1 : BitVec 32) : Fin 2 → Nat :=
  let c0_i32_3 : BitVec 32 := 0#32
  ![v1.toNat, 0]

def k1_off2 (v7 : BitVec 32) : Fin 2 → Nat :=
  let c0_i32_6 : BitVec 32 := 0#32
  ![v7.toNat, 0]

def k1_off3 (v13 : BitVec 32) : Fin 2 → Nat :=
  let c0_i32_9 : BitVec 32 := 0#32
  ![v13.toNat, 0]

def k1_off4 (v19 : BitVec 32) : Fin 2 → Nat :=
  let c0_i32_12 : BitVec 32 := 0#32
  ![v19.toNat, 0]

def k1_off5 (v25 : BitVec 32) : Fin 2 → Nat :=
  let c0_i32_15 : BitVec 32 := 0#32
  ![v25.toNat, 0]

def k1_off6 (v31 : BitVec 32) : Fin 2 → Nat :=
  let c0_i32_18 : BitVec 32 := 0#32
  ![v31.toNat, 0]

def k1_off7 (v37 : BitVec 32) : Fin 2 → Nat :=
  let c0_i32_21 : BitVec 32 := 0#32
  ![v37.toNat, 0]

def k1_off8 (v43 : BitVec 32) : Fin 2 → Nat :=
  let c0_i32_24 : BitVec 32 := 0#32
  ![v43.toNat, 0]

def k1_off9 (v49 : BitVec 32) : Fin 2 → Nat :=
  let c0_i32_27 : BitVec 32 := 0#32
  ![v49.toNat, 0]

def k1_off10 (v55 : BitVec 32) : Fin 2 → Nat :=
  let c0_i32_30 : BitVec 32 := 0#32
  ![v55.toNat, 0]

def k1_off11 (v61 : BitVec 32) : Fin 2 → Nat :=
  let c0_i32_33 : BitVec 32 := 0#32
  ![v61.toNat, 0]

def k1_off12 (v67 : BitVec 32) : Fin 2 → Nat :=
  let c0_i32_36 : BitVec 32 := 0#32
  ![v67.toNat, 0]

def k1_off13 (v73 : BitVec 32) : Fin 2 → Nat :=
  let c0_i32_39 : BitVec 32 := 0#32
  ![v73.toNat, 0]

def k1_off14 (v79 : BitVec 32) : Fin 2 → Nat :=
  let c0_i32_42 : BitVec 32 := 0#32
  ![v79.toNat, 0]

def k1_off15 (v85 : BitVec 32) : Fin 2 → Nat :=
  let c0_i32_45 : BitVec 32 := 0#32
  ![v85.toNat, 0]

def k1_off16 (v91 : BitVec 32) : Fin 2 → Nat :=
  let c0_i32_48 : BitVec 32 := 0#32
  ![v91.toNat, 0]

def k1_off17 (v97 : BitVec 32) : Fin 2 → Nat :=
  let c0_i32_51 : BitVec 32 := 0#32
  ![v97.toNat, 0]

def k1_off18 (v103 : BitVec 32) : Fin 2 → Nat :=
  let c0_i32_54 : BitVec 32 := 0#32
  ![v103.toNat, 0]

def k1_off19 (v109 : BitVec 32) : Fin 2 → Nat :=
  let c0_i32_57 : BitVec 32 := 0#32
  ![v109.toNat, 0]

def k1_off20 (v115 : BitVec 32) : Fin 2 → Nat :=
  let c0_i32_60 : BitVec 32 := 0#32
  ![v115.toNat, 0]

def k1_off21 (v121 : BitVec 32) : Fin 2 → Nat :=
  let c0_i32_63 : BitVec 32 := 0#32
  ![v121.toNat, 0]

def k1_off22 (v127 : BitVec 32) : Fin 2 → Nat :=
  let c0_i32_66 : BitVec 32 := 0#32
  ![v127.toNat, 0]

def k1_off23 (v133 : BitVec 32) : Fin 2 → Nat :=
  let c0_i32_69 : BitVec 32 := 0#32
  ![v133.toNat, 0]

def k1_off24 (v139 : BitVec 32) : Fin 2 → Nat :=
  let c0_i32_72 : BitVec 32 := 0#32
  ![v139.toNat, 0]

def k1_off25 (v145 : BitVec 32) : Fin 2 → Nat :=
  let c0_i32_75 : BitVec 32 := 0#32
  ![v145.toNat, 0]

def k1_off26 (v151 : BitVec 32) : Fin 2 → Nat :=
  let c0_i32_78 : BitVec 32 := 0#32
  ![v151.toNat, 0]

def k1_off27 (v157 : BitVec 32) : Fin 2 → Nat :=
  let c0_i32_81 : BitVec 32 := 0#32
  ![v157.toNat, 0]

def k1_off28 (v163 : BitVec 32) : Fin 2 → Nat :=
  let c0_i32_84 : BitVec 32 := 0#32
  ![v163.toNat, 0]

def k1_off29 (v169 : BitVec 32) : Fin 2 → Nat :=
  let c0_i32_87 : BitVec 32 := 0#32
  ![v169.toNat, 0]

def k1_off30 (v175 : BitVec 32) : Fin 2 → Nat :=
  let c0_i32_90 : BitVec 32 := 0#32
  ![v175.toNat, 0]

def k1_off31 (v181 : BitVec 32) : Fin 2 → Nat :=
  let c0_i32_93 : BitVec 32 := 0#32
  ![v181.toNat, 0]

def k1_off32 (v187 : BitVec 32) : Fin 2 → Nat :=
  let c0_i32_96 : BitVec 32 := 0#32
  ![v187.toNat, 0]

def k1_off33 (v193 : BitVec 32) : Fin 2 → Nat :=
  let c0_i32_99 : BitVec 32 := 0#32
  ![v193.toNat, 0]

def k1_off34 (v199 : BitVec 32) : Fin 2 → Nat :=
  let c0_i32_102 : BitVec 32 := 0#32
  ![v199.toNat, 0]

def k1_off35 (v205 : BitVec 32) : Fin 2 → Nat :=
  let c0_i32_105 : BitVec 32 := 0#32
  ![v205.toNat, 0]

def k1_off36 (v211 : BitVec 32) : Fin 2 → Nat :=
  let c0_i32_108 : BitVec 32 := 0#32
  ![v211.toNat, 0]

def k1_off37 (v217 : BitVec 32) : Fin 2 → Nat :=
  let c0_i32_111 : BitVec 32 := 0#32
  ![v217.toNat, 0]

def k1_off38 (v223 : BitVec 32) : Fin 2 → Nat :=
  let c0_i32_114 : BitVec 32 := 0#32
  ![v223.toNat, 0]

def k1_off39 (v229 : BitVec 32) : Fin 2 → Nat :=
  let c0_i32_117 : BitVec 32 := 0#32
  ![v229.toNat, 0]

def k1_off40 (v235 : BitVec 32) : Fin 2 → Nat :=
  let c0_i32_120 : BitVec 32 := 0#32
  ![v235.toNat, 0]

def k1_off41 (v241 : BitVec 32) : Fin 2 → Nat :=
  let c0_i32_123 : BitVec 32 := 0#32
  ![v241.toNat, 0]

def k1_off42 (v247 : BitVec 32) : Fin 2 → Nat :=
  let c0_i32_126 : BitVec 32 := 0#32
  ![v247.toNat, 0]

def k1_off43 (v253 : BitVec 32) : Fin 2 → Nat :=
  let c0_i32_129 : BitVec 32 := 0#32
  ![v253.toNat, 0]

def k1_off44 (v259 : BitVec 32) : Fin 2 → Nat :=
  let c0_i32_132 : BitVec 32 := 0#32
  ![v259.toNat, 0]

def k1_off45 (v265 : BitVec 32) : Fin 2 → Nat :=
  let c0_i32_135 : BitVec 32 := 0#32
  ![v265.toNat, 0]

def k1_off46 (v271 : BitVec 32) : Fin 2 → Nat :=
  let c0_i32_138 : BitVec 32 := 0#32
  ![v271.toNat, 0]

def k1_off47 (v277 : BitVec 32) : Fin 2 → Nat :=
  let c0_i32_141 : BitVec 32 := 0#32
  ![v277.toNat, 0]

def k1_off48 (v283 : BitVec 32) : Fin 2 → Nat :=
  let c0_i32_144 : BitVec 32 := 0#32
  ![v283.toNat, 0]

def k1_off49 (v289 : BitVec 32) : Fin 2 → Nat :=
  let c0_i32_147 : BitVec 32 := 0#32
  ![v289.toNat, 0]

def k1_off50 (v295 : BitVec 32) : Fin 2 → Nat :=
  let c0_i32_150 : BitVec 32 := 0#32
  ![v295.toNat, 0]

def k1_off51 (v301 : BitVec 32) : Fin 2 → Nat :=
  let c0_i32_153 : BitVec 32 := 0#32
  ![v301.toNat, 0]

def k1_off52 (v307 : BitVec 32) : Fin 2 → Nat :=
  let c0_i32_156 : BitVec 32 := 0#32
  ![v307.toNat, 0]

def k1_off53 (v313 : BitVec 32) : Fin 2 → Nat :=
  let c0_i32_159 : BitVec 32 := 0#32
  ![v313.toNat, 0]

def k1_off54 (v319 : BitVec 32) : Fin 2 → Nat :=
  let c0_i32_162 : BitVec 32 := 0#32
  ![v319.toNat, 0]

def k1_off55 (v325 : BitVec 32) : Fin 2 → Nat :=
  let c0_i32_165 : BitVec 32 := 0#32
  ![v325.toNat, 0]

def k1_off56 (v331 : BitVec 32) : Fin 2 → Nat :=
  let c0_i32_168 : BitVec 32 := 0#32
  ![v331.toNat, 0]

def k1_off57 (v337 : BitVec 32) : Fin 2 → Nat :=
  let c0_i32_171 : BitVec 32 := 0#32
  ![v337.toNat, 0]

def k1_off58 (v343 : BitVec 32) : Fin 2 → Nat :=
  let c0_i32_174 : BitVec 32 := 0#32
  ![v343.toNat, 0]

def k1_off59 (v349 : BitVec 32) : Fin 2 → Nat :=
  let c0_i32_177 : BitVec 32 := 0#32
  ![v349.toNat, 0]

def k1_off60 (v355 : BitVec 32) : Fin 2 → Nat :=
  let c0_i32_180 : BitVec 32 := 0#32
  ![v355.toNat, 0]

def k1_off61 (v361 : BitVec 32) : Fin 2 → Nat :=
  let c0_i32_183 : BitVec 32 := 0#32
  ![v361.toNat, 0]

def k1_off62 (v367 : BitVec 32) : Fin 2 → Nat :=
  let c0_i32_186 : BitVec 32 := 0#32
  ![v367.toNat, 0]

def k1_off63 (v373 : BitVec 32) : Fin 2 → Nat :=
  let c0_i32_189 : BitVec 32 := 0#32
  ![v373.toNat, 0]

def k1_off64 (v379 : BitVec 32) : Fin 2 → Nat :=
  let c0_i32_192 : BitVec 32 := 0#32
  ![v379.toNat, 0]

def k1_chk64 (v379 : BitVec 32) : Prop :=
  (∀ a, (k1_off64 v379) a + S1x128.size a ≤ S32768x128.size a)
theorem k1_off64_inb : ∀ (v379 : BitVec 32) (k1_hw64 : k1_chk64 v379), ∀ a, (k1_off64 v379) a + S1x128.size a ≤ S32768x128.size a := fun v379 k1_hw64 => k1_hw64

def k1_off65 (v1 : BitVec 32) : Fin 2 → Nat :=
  let c0_i32_195 : BitVec 32 := 0#32
  ![v1.toNat, 0]

def k1_chk1 (v1 : BitVec 32) : Prop :=
  (∀ a, (k1_off1 v1) a + S1x128.size a ≤ S32768x128.size a) ∧
  (∀ a, (k1_off65 v1) a + S1x128.size a ≤ S32768x128.size a)
theorem k1_off1_inb : ∀ (v1 : BitVec 32) (k1_hw1 : k1_chk1 v1), ∀ a, (k1_off1 v1) a + S1x128.size a ≤ S32768x128.size a := fun v1 k1_hw1 => k1_hw1.1
theorem k1_off65_inb : ∀ (v1 : BitVec 32) (k1_hw1 : k1_chk1 v1), ∀ a, (k1_off65 v1) a + S1x128.size a ≤ S32768x128.size a := fun v1 k1_hw1 => k1_hw1.2

def k1_off66 (v7 : BitVec 32) : Fin 2 → Nat :=
  let c0_i32_198 : BitVec 32 := 0#32
  ![v7.toNat, 0]

def k1_chk2 (v7 : BitVec 32) : Prop :=
  (∀ a, (k1_off2 v7) a + S1x128.size a ≤ S32768x128.size a) ∧
  (∀ a, (k1_off66 v7) a + S1x128.size a ≤ S32768x128.size a)
theorem k1_off2_inb : ∀ (v7 : BitVec 32) (k1_hw2 : k1_chk2 v7), ∀ a, (k1_off2 v7) a + S1x128.size a ≤ S32768x128.size a := fun v7 k1_hw2 => k1_hw2.1
theorem k1_off66_inb : ∀ (v7 : BitVec 32) (k1_hw2 : k1_chk2 v7), ∀ a, (k1_off66 v7) a + S1x128.size a ≤ S32768x128.size a := fun v7 k1_hw2 => k1_hw2.2

def k1_off67 (v13 : BitVec 32) : Fin 2 → Nat :=
  let c0_i32_201 : BitVec 32 := 0#32
  ![v13.toNat, 0]

def k1_chk3 (v13 : BitVec 32) : Prop :=
  (∀ a, (k1_off3 v13) a + S1x128.size a ≤ S32768x128.size a) ∧
  (∀ a, (k1_off67 v13) a + S1x128.size a ≤ S32768x128.size a)
theorem k1_off3_inb : ∀ (v13 : BitVec 32) (k1_hw3 : k1_chk3 v13), ∀ a, (k1_off3 v13) a + S1x128.size a ≤ S32768x128.size a := fun v13 k1_hw3 => k1_hw3.1
theorem k1_off67_inb : ∀ (v13 : BitVec 32) (k1_hw3 : k1_chk3 v13), ∀ a, (k1_off67 v13) a + S1x128.size a ≤ S32768x128.size a := fun v13 k1_hw3 => k1_hw3.2

def k1_off68 (v19 : BitVec 32) : Fin 2 → Nat :=
  let c0_i32_204 : BitVec 32 := 0#32
  ![v19.toNat, 0]

def k1_chk4 (v19 : BitVec 32) : Prop :=
  (∀ a, (k1_off4 v19) a + S1x128.size a ≤ S32768x128.size a) ∧
  (∀ a, (k1_off68 v19) a + S1x128.size a ≤ S32768x128.size a)
theorem k1_off4_inb : ∀ (v19 : BitVec 32) (k1_hw4 : k1_chk4 v19), ∀ a, (k1_off4 v19) a + S1x128.size a ≤ S32768x128.size a := fun v19 k1_hw4 => k1_hw4.1
theorem k1_off68_inb : ∀ (v19 : BitVec 32) (k1_hw4 : k1_chk4 v19), ∀ a, (k1_off68 v19) a + S1x128.size a ≤ S32768x128.size a := fun v19 k1_hw4 => k1_hw4.2

def k1_off69 (v25 : BitVec 32) : Fin 2 → Nat :=
  let c0_i32_207 : BitVec 32 := 0#32
  ![v25.toNat, 0]

def k1_chk5 (v25 : BitVec 32) : Prop :=
  (∀ a, (k1_off5 v25) a + S1x128.size a ≤ S32768x128.size a) ∧
  (∀ a, (k1_off69 v25) a + S1x128.size a ≤ S32768x128.size a)
theorem k1_off5_inb : ∀ (v25 : BitVec 32) (k1_hw5 : k1_chk5 v25), ∀ a, (k1_off5 v25) a + S1x128.size a ≤ S32768x128.size a := fun v25 k1_hw5 => k1_hw5.1
theorem k1_off69_inb : ∀ (v25 : BitVec 32) (k1_hw5 : k1_chk5 v25), ∀ a, (k1_off69 v25) a + S1x128.size a ≤ S32768x128.size a := fun v25 k1_hw5 => k1_hw5.2

def k1_off70 (v31 : BitVec 32) : Fin 2 → Nat :=
  let c0_i32_210 : BitVec 32 := 0#32
  ![v31.toNat, 0]

def k1_chk6 (v31 : BitVec 32) : Prop :=
  (∀ a, (k1_off6 v31) a + S1x128.size a ≤ S32768x128.size a) ∧
  (∀ a, (k1_off70 v31) a + S1x128.size a ≤ S32768x128.size a)
theorem k1_off6_inb : ∀ (v31 : BitVec 32) (k1_hw6 : k1_chk6 v31), ∀ a, (k1_off6 v31) a + S1x128.size a ≤ S32768x128.size a := fun v31 k1_hw6 => k1_hw6.1
theorem k1_off70_inb : ∀ (v31 : BitVec 32) (k1_hw6 : k1_chk6 v31), ∀ a, (k1_off70 v31) a + S1x128.size a ≤ S32768x128.size a := fun v31 k1_hw6 => k1_hw6.2

def k1_off71 (v37 : BitVec 32) : Fin 2 → Nat :=
  let c0_i32_213 : BitVec 32 := 0#32
  ![v37.toNat, 0]

def k1_chk7 (v37 : BitVec 32) : Prop :=
  (∀ a, (k1_off7 v37) a + S1x128.size a ≤ S32768x128.size a) ∧
  (∀ a, (k1_off71 v37) a + S1x128.size a ≤ S32768x128.size a)
theorem k1_off7_inb : ∀ (v37 : BitVec 32) (k1_hw7 : k1_chk7 v37), ∀ a, (k1_off7 v37) a + S1x128.size a ≤ S32768x128.size a := fun v37 k1_hw7 => k1_hw7.1
theorem k1_off71_inb : ∀ (v37 : BitVec 32) (k1_hw7 : k1_chk7 v37), ∀ a, (k1_off71 v37) a + S1x128.size a ≤ S32768x128.size a := fun v37 k1_hw7 => k1_hw7.2

def k1_off72 (v43 : BitVec 32) : Fin 2 → Nat :=
  let c0_i32_216 : BitVec 32 := 0#32
  ![v43.toNat, 0]

def k1_chk8 (v43 : BitVec 32) : Prop :=
  (∀ a, (k1_off8 v43) a + S1x128.size a ≤ S32768x128.size a) ∧
  (∀ a, (k1_off72 v43) a + S1x128.size a ≤ S32768x128.size a)
theorem k1_off8_inb : ∀ (v43 : BitVec 32) (k1_hw8 : k1_chk8 v43), ∀ a, (k1_off8 v43) a + S1x128.size a ≤ S32768x128.size a := fun v43 k1_hw8 => k1_hw8.1
theorem k1_off72_inb : ∀ (v43 : BitVec 32) (k1_hw8 : k1_chk8 v43), ∀ a, (k1_off72 v43) a + S1x128.size a ≤ S32768x128.size a := fun v43 k1_hw8 => k1_hw8.2

def k1_off73 (v49 : BitVec 32) : Fin 2 → Nat :=
  let c0_i32_219 : BitVec 32 := 0#32
  ![v49.toNat, 0]

def k1_chk9 (v49 : BitVec 32) : Prop :=
  (∀ a, (k1_off9 v49) a + S1x128.size a ≤ S32768x128.size a) ∧
  (∀ a, (k1_off73 v49) a + S1x128.size a ≤ S32768x128.size a)
theorem k1_off9_inb : ∀ (v49 : BitVec 32) (k1_hw9 : k1_chk9 v49), ∀ a, (k1_off9 v49) a + S1x128.size a ≤ S32768x128.size a := fun v49 k1_hw9 => k1_hw9.1
theorem k1_off73_inb : ∀ (v49 : BitVec 32) (k1_hw9 : k1_chk9 v49), ∀ a, (k1_off73 v49) a + S1x128.size a ≤ S32768x128.size a := fun v49 k1_hw9 => k1_hw9.2

def k1_off74 (v55 : BitVec 32) : Fin 2 → Nat :=
  let c0_i32_222 : BitVec 32 := 0#32
  ![v55.toNat, 0]

def k1_chk10 (v55 : BitVec 32) : Prop :=
  (∀ a, (k1_off10 v55) a + S1x128.size a ≤ S32768x128.size a) ∧
  (∀ a, (k1_off74 v55) a + S1x128.size a ≤ S32768x128.size a)
theorem k1_off10_inb : ∀ (v55 : BitVec 32) (k1_hw10 : k1_chk10 v55), ∀ a, (k1_off10 v55) a + S1x128.size a ≤ S32768x128.size a := fun v55 k1_hw10 => k1_hw10.1
theorem k1_off74_inb : ∀ (v55 : BitVec 32) (k1_hw10 : k1_chk10 v55), ∀ a, (k1_off74 v55) a + S1x128.size a ≤ S32768x128.size a := fun v55 k1_hw10 => k1_hw10.2

def k1_off75 (v61 : BitVec 32) : Fin 2 → Nat :=
  let c0_i32_225 : BitVec 32 := 0#32
  ![v61.toNat, 0]

def k1_chk11 (v61 : BitVec 32) : Prop :=
  (∀ a, (k1_off11 v61) a + S1x128.size a ≤ S32768x128.size a) ∧
  (∀ a, (k1_off75 v61) a + S1x128.size a ≤ S32768x128.size a)
theorem k1_off11_inb : ∀ (v61 : BitVec 32) (k1_hw11 : k1_chk11 v61), ∀ a, (k1_off11 v61) a + S1x128.size a ≤ S32768x128.size a := fun v61 k1_hw11 => k1_hw11.1
theorem k1_off75_inb : ∀ (v61 : BitVec 32) (k1_hw11 : k1_chk11 v61), ∀ a, (k1_off75 v61) a + S1x128.size a ≤ S32768x128.size a := fun v61 k1_hw11 => k1_hw11.2

def k1_off76 (v67 : BitVec 32) : Fin 2 → Nat :=
  let c0_i32_228 : BitVec 32 := 0#32
  ![v67.toNat, 0]

def k1_chk12 (v67 : BitVec 32) : Prop :=
  (∀ a, (k1_off12 v67) a + S1x128.size a ≤ S32768x128.size a) ∧
  (∀ a, (k1_off76 v67) a + S1x128.size a ≤ S32768x128.size a)
theorem k1_off12_inb : ∀ (v67 : BitVec 32) (k1_hw12 : k1_chk12 v67), ∀ a, (k1_off12 v67) a + S1x128.size a ≤ S32768x128.size a := fun v67 k1_hw12 => k1_hw12.1
theorem k1_off76_inb : ∀ (v67 : BitVec 32) (k1_hw12 : k1_chk12 v67), ∀ a, (k1_off76 v67) a + S1x128.size a ≤ S32768x128.size a := fun v67 k1_hw12 => k1_hw12.2

def k1_off77 (v73 : BitVec 32) : Fin 2 → Nat :=
  let c0_i32_231 : BitVec 32 := 0#32
  ![v73.toNat, 0]

def k1_chk13 (v73 : BitVec 32) : Prop :=
  (∀ a, (k1_off13 v73) a + S1x128.size a ≤ S32768x128.size a) ∧
  (∀ a, (k1_off77 v73) a + S1x128.size a ≤ S32768x128.size a)
theorem k1_off13_inb : ∀ (v73 : BitVec 32) (k1_hw13 : k1_chk13 v73), ∀ a, (k1_off13 v73) a + S1x128.size a ≤ S32768x128.size a := fun v73 k1_hw13 => k1_hw13.1
theorem k1_off77_inb : ∀ (v73 : BitVec 32) (k1_hw13 : k1_chk13 v73), ∀ a, (k1_off77 v73) a + S1x128.size a ≤ S32768x128.size a := fun v73 k1_hw13 => k1_hw13.2

def k1_off78 (v79 : BitVec 32) : Fin 2 → Nat :=
  let c0_i32_234 : BitVec 32 := 0#32
  ![v79.toNat, 0]

def k1_chk14 (v79 : BitVec 32) : Prop :=
  (∀ a, (k1_off14 v79) a + S1x128.size a ≤ S32768x128.size a) ∧
  (∀ a, (k1_off78 v79) a + S1x128.size a ≤ S32768x128.size a)
theorem k1_off14_inb : ∀ (v79 : BitVec 32) (k1_hw14 : k1_chk14 v79), ∀ a, (k1_off14 v79) a + S1x128.size a ≤ S32768x128.size a := fun v79 k1_hw14 => k1_hw14.1
theorem k1_off78_inb : ∀ (v79 : BitVec 32) (k1_hw14 : k1_chk14 v79), ∀ a, (k1_off78 v79) a + S1x128.size a ≤ S32768x128.size a := fun v79 k1_hw14 => k1_hw14.2

def k1_off79 (v85 : BitVec 32) : Fin 2 → Nat :=
  let c0_i32_237 : BitVec 32 := 0#32
  ![v85.toNat, 0]

def k1_chk15 (v85 : BitVec 32) : Prop :=
  (∀ a, (k1_off15 v85) a + S1x128.size a ≤ S32768x128.size a) ∧
  (∀ a, (k1_off79 v85) a + S1x128.size a ≤ S32768x128.size a)
theorem k1_off15_inb : ∀ (v85 : BitVec 32) (k1_hw15 : k1_chk15 v85), ∀ a, (k1_off15 v85) a + S1x128.size a ≤ S32768x128.size a := fun v85 k1_hw15 => k1_hw15.1
theorem k1_off79_inb : ∀ (v85 : BitVec 32) (k1_hw15 : k1_chk15 v85), ∀ a, (k1_off79 v85) a + S1x128.size a ≤ S32768x128.size a := fun v85 k1_hw15 => k1_hw15.2

def k1_off80 (v91 : BitVec 32) : Fin 2 → Nat :=
  let c0_i32_240 : BitVec 32 := 0#32
  ![v91.toNat, 0]

def k1_chk16 (v91 : BitVec 32) : Prop :=
  (∀ a, (k1_off16 v91) a + S1x128.size a ≤ S32768x128.size a) ∧
  (∀ a, (k1_off80 v91) a + S1x128.size a ≤ S32768x128.size a)
theorem k1_off16_inb : ∀ (v91 : BitVec 32) (k1_hw16 : k1_chk16 v91), ∀ a, (k1_off16 v91) a + S1x128.size a ≤ S32768x128.size a := fun v91 k1_hw16 => k1_hw16.1
theorem k1_off80_inb : ∀ (v91 : BitVec 32) (k1_hw16 : k1_chk16 v91), ∀ a, (k1_off80 v91) a + S1x128.size a ≤ S32768x128.size a := fun v91 k1_hw16 => k1_hw16.2

def k1_off81 (v97 : BitVec 32) : Fin 2 → Nat :=
  let c0_i32_243 : BitVec 32 := 0#32
  ![v97.toNat, 0]

def k1_chk17 (v97 : BitVec 32) : Prop :=
  (∀ a, (k1_off17 v97) a + S1x128.size a ≤ S32768x128.size a) ∧
  (∀ a, (k1_off81 v97) a + S1x128.size a ≤ S32768x128.size a)
theorem k1_off17_inb : ∀ (v97 : BitVec 32) (k1_hw17 : k1_chk17 v97), ∀ a, (k1_off17 v97) a + S1x128.size a ≤ S32768x128.size a := fun v97 k1_hw17 => k1_hw17.1
theorem k1_off81_inb : ∀ (v97 : BitVec 32) (k1_hw17 : k1_chk17 v97), ∀ a, (k1_off81 v97) a + S1x128.size a ≤ S32768x128.size a := fun v97 k1_hw17 => k1_hw17.2

def k1_off82 (v103 : BitVec 32) : Fin 2 → Nat :=
  let c0_i32_246 : BitVec 32 := 0#32
  ![v103.toNat, 0]

def k1_chk18 (v103 : BitVec 32) : Prop :=
  (∀ a, (k1_off18 v103) a + S1x128.size a ≤ S32768x128.size a) ∧
  (∀ a, (k1_off82 v103) a + S1x128.size a ≤ S32768x128.size a)
theorem k1_off18_inb : ∀ (v103 : BitVec 32) (k1_hw18 : k1_chk18 v103), ∀ a, (k1_off18 v103) a + S1x128.size a ≤ S32768x128.size a := fun v103 k1_hw18 => k1_hw18.1
theorem k1_off82_inb : ∀ (v103 : BitVec 32) (k1_hw18 : k1_chk18 v103), ∀ a, (k1_off82 v103) a + S1x128.size a ≤ S32768x128.size a := fun v103 k1_hw18 => k1_hw18.2

def k1_off83 (v109 : BitVec 32) : Fin 2 → Nat :=
  let c0_i32_249 : BitVec 32 := 0#32
  ![v109.toNat, 0]

def k1_chk19 (v109 : BitVec 32) : Prop :=
  (∀ a, (k1_off19 v109) a + S1x128.size a ≤ S32768x128.size a) ∧
  (∀ a, (k1_off83 v109) a + S1x128.size a ≤ S32768x128.size a)
theorem k1_off19_inb : ∀ (v109 : BitVec 32) (k1_hw19 : k1_chk19 v109), ∀ a, (k1_off19 v109) a + S1x128.size a ≤ S32768x128.size a := fun v109 k1_hw19 => k1_hw19.1
theorem k1_off83_inb : ∀ (v109 : BitVec 32) (k1_hw19 : k1_chk19 v109), ∀ a, (k1_off83 v109) a + S1x128.size a ≤ S32768x128.size a := fun v109 k1_hw19 => k1_hw19.2

def k1_off84 (v115 : BitVec 32) : Fin 2 → Nat :=
  let c0_i32_252 : BitVec 32 := 0#32
  ![v115.toNat, 0]

def k1_chk20 (v115 : BitVec 32) : Prop :=
  (∀ a, (k1_off20 v115) a + S1x128.size a ≤ S32768x128.size a) ∧
  (∀ a, (k1_off84 v115) a + S1x128.size a ≤ S32768x128.size a)
theorem k1_off20_inb : ∀ (v115 : BitVec 32) (k1_hw20 : k1_chk20 v115), ∀ a, (k1_off20 v115) a + S1x128.size a ≤ S32768x128.size a := fun v115 k1_hw20 => k1_hw20.1
theorem k1_off84_inb : ∀ (v115 : BitVec 32) (k1_hw20 : k1_chk20 v115), ∀ a, (k1_off84 v115) a + S1x128.size a ≤ S32768x128.size a := fun v115 k1_hw20 => k1_hw20.2

def k1_off85 (v121 : BitVec 32) : Fin 2 → Nat :=
  let c0_i32_255 : BitVec 32 := 0#32
  ![v121.toNat, 0]

def k1_chk21 (v121 : BitVec 32) : Prop :=
  (∀ a, (k1_off21 v121) a + S1x128.size a ≤ S32768x128.size a) ∧
  (∀ a, (k1_off85 v121) a + S1x128.size a ≤ S32768x128.size a)
theorem k1_off21_inb : ∀ (v121 : BitVec 32) (k1_hw21 : k1_chk21 v121), ∀ a, (k1_off21 v121) a + S1x128.size a ≤ S32768x128.size a := fun v121 k1_hw21 => k1_hw21.1
theorem k1_off85_inb : ∀ (v121 : BitVec 32) (k1_hw21 : k1_chk21 v121), ∀ a, (k1_off85 v121) a + S1x128.size a ≤ S32768x128.size a := fun v121 k1_hw21 => k1_hw21.2

def k1_off86 (v127 : BitVec 32) : Fin 2 → Nat :=
  let c0_i32_258 : BitVec 32 := 0#32
  ![v127.toNat, 0]

def k1_chk22 (v127 : BitVec 32) : Prop :=
  (∀ a, (k1_off22 v127) a + S1x128.size a ≤ S32768x128.size a) ∧
  (∀ a, (k1_off86 v127) a + S1x128.size a ≤ S32768x128.size a)
theorem k1_off22_inb : ∀ (v127 : BitVec 32) (k1_hw22 : k1_chk22 v127), ∀ a, (k1_off22 v127) a + S1x128.size a ≤ S32768x128.size a := fun v127 k1_hw22 => k1_hw22.1
theorem k1_off86_inb : ∀ (v127 : BitVec 32) (k1_hw22 : k1_chk22 v127), ∀ a, (k1_off86 v127) a + S1x128.size a ≤ S32768x128.size a := fun v127 k1_hw22 => k1_hw22.2

def k1_off87 (v133 : BitVec 32) : Fin 2 → Nat :=
  let c0_i32_261 : BitVec 32 := 0#32
  ![v133.toNat, 0]

def k1_chk23 (v133 : BitVec 32) : Prop :=
  (∀ a, (k1_off23 v133) a + S1x128.size a ≤ S32768x128.size a) ∧
  (∀ a, (k1_off87 v133) a + S1x128.size a ≤ S32768x128.size a)
theorem k1_off23_inb : ∀ (v133 : BitVec 32) (k1_hw23 : k1_chk23 v133), ∀ a, (k1_off23 v133) a + S1x128.size a ≤ S32768x128.size a := fun v133 k1_hw23 => k1_hw23.1
theorem k1_off87_inb : ∀ (v133 : BitVec 32) (k1_hw23 : k1_chk23 v133), ∀ a, (k1_off87 v133) a + S1x128.size a ≤ S32768x128.size a := fun v133 k1_hw23 => k1_hw23.2

def k1_off88 (v139 : BitVec 32) : Fin 2 → Nat :=
  let c0_i32_264 : BitVec 32 := 0#32
  ![v139.toNat, 0]

def k1_chk24 (v139 : BitVec 32) : Prop :=
  (∀ a, (k1_off24 v139) a + S1x128.size a ≤ S32768x128.size a) ∧
  (∀ a, (k1_off88 v139) a + S1x128.size a ≤ S32768x128.size a)
theorem k1_off24_inb : ∀ (v139 : BitVec 32) (k1_hw24 : k1_chk24 v139), ∀ a, (k1_off24 v139) a + S1x128.size a ≤ S32768x128.size a := fun v139 k1_hw24 => k1_hw24.1
theorem k1_off88_inb : ∀ (v139 : BitVec 32) (k1_hw24 : k1_chk24 v139), ∀ a, (k1_off88 v139) a + S1x128.size a ≤ S32768x128.size a := fun v139 k1_hw24 => k1_hw24.2

def k1_off89 (v145 : BitVec 32) : Fin 2 → Nat :=
  let c0_i32_267 : BitVec 32 := 0#32
  ![v145.toNat, 0]

def k1_chk25 (v145 : BitVec 32) : Prop :=
  (∀ a, (k1_off25 v145) a + S1x128.size a ≤ S32768x128.size a) ∧
  (∀ a, (k1_off89 v145) a + S1x128.size a ≤ S32768x128.size a)
theorem k1_off25_inb : ∀ (v145 : BitVec 32) (k1_hw25 : k1_chk25 v145), ∀ a, (k1_off25 v145) a + S1x128.size a ≤ S32768x128.size a := fun v145 k1_hw25 => k1_hw25.1
theorem k1_off89_inb : ∀ (v145 : BitVec 32) (k1_hw25 : k1_chk25 v145), ∀ a, (k1_off89 v145) a + S1x128.size a ≤ S32768x128.size a := fun v145 k1_hw25 => k1_hw25.2

def k1_off90 (v151 : BitVec 32) : Fin 2 → Nat :=
  let c0_i32_270 : BitVec 32 := 0#32
  ![v151.toNat, 0]

def k1_chk26 (v151 : BitVec 32) : Prop :=
  (∀ a, (k1_off26 v151) a + S1x128.size a ≤ S32768x128.size a) ∧
  (∀ a, (k1_off90 v151) a + S1x128.size a ≤ S32768x128.size a)
theorem k1_off26_inb : ∀ (v151 : BitVec 32) (k1_hw26 : k1_chk26 v151), ∀ a, (k1_off26 v151) a + S1x128.size a ≤ S32768x128.size a := fun v151 k1_hw26 => k1_hw26.1
theorem k1_off90_inb : ∀ (v151 : BitVec 32) (k1_hw26 : k1_chk26 v151), ∀ a, (k1_off90 v151) a + S1x128.size a ≤ S32768x128.size a := fun v151 k1_hw26 => k1_hw26.2

def k1_off91 (v157 : BitVec 32) : Fin 2 → Nat :=
  let c0_i32_273 : BitVec 32 := 0#32
  ![v157.toNat, 0]

def k1_chk27 (v157 : BitVec 32) : Prop :=
  (∀ a, (k1_off27 v157) a + S1x128.size a ≤ S32768x128.size a) ∧
  (∀ a, (k1_off91 v157) a + S1x128.size a ≤ S32768x128.size a)
theorem k1_off27_inb : ∀ (v157 : BitVec 32) (k1_hw27 : k1_chk27 v157), ∀ a, (k1_off27 v157) a + S1x128.size a ≤ S32768x128.size a := fun v157 k1_hw27 => k1_hw27.1
theorem k1_off91_inb : ∀ (v157 : BitVec 32) (k1_hw27 : k1_chk27 v157), ∀ a, (k1_off91 v157) a + S1x128.size a ≤ S32768x128.size a := fun v157 k1_hw27 => k1_hw27.2

def k1_off92 (v163 : BitVec 32) : Fin 2 → Nat :=
  let c0_i32_276 : BitVec 32 := 0#32
  ![v163.toNat, 0]

def k1_chk28 (v163 : BitVec 32) : Prop :=
  (∀ a, (k1_off28 v163) a + S1x128.size a ≤ S32768x128.size a) ∧
  (∀ a, (k1_off92 v163) a + S1x128.size a ≤ S32768x128.size a)
theorem k1_off28_inb : ∀ (v163 : BitVec 32) (k1_hw28 : k1_chk28 v163), ∀ a, (k1_off28 v163) a + S1x128.size a ≤ S32768x128.size a := fun v163 k1_hw28 => k1_hw28.1
theorem k1_off92_inb : ∀ (v163 : BitVec 32) (k1_hw28 : k1_chk28 v163), ∀ a, (k1_off92 v163) a + S1x128.size a ≤ S32768x128.size a := fun v163 k1_hw28 => k1_hw28.2

def k1_off93 (v169 : BitVec 32) : Fin 2 → Nat :=
  let c0_i32_279 : BitVec 32 := 0#32
  ![v169.toNat, 0]

def k1_chk29 (v169 : BitVec 32) : Prop :=
  (∀ a, (k1_off29 v169) a + S1x128.size a ≤ S32768x128.size a) ∧
  (∀ a, (k1_off93 v169) a + S1x128.size a ≤ S32768x128.size a)
theorem k1_off29_inb : ∀ (v169 : BitVec 32) (k1_hw29 : k1_chk29 v169), ∀ a, (k1_off29 v169) a + S1x128.size a ≤ S32768x128.size a := fun v169 k1_hw29 => k1_hw29.1
theorem k1_off93_inb : ∀ (v169 : BitVec 32) (k1_hw29 : k1_chk29 v169), ∀ a, (k1_off93 v169) a + S1x128.size a ≤ S32768x128.size a := fun v169 k1_hw29 => k1_hw29.2

def k1_off94 (v175 : BitVec 32) : Fin 2 → Nat :=
  let c0_i32_282 : BitVec 32 := 0#32
  ![v175.toNat, 0]

def k1_chk30 (v175 : BitVec 32) : Prop :=
  (∀ a, (k1_off30 v175) a + S1x128.size a ≤ S32768x128.size a) ∧
  (∀ a, (k1_off94 v175) a + S1x128.size a ≤ S32768x128.size a)
theorem k1_off30_inb : ∀ (v175 : BitVec 32) (k1_hw30 : k1_chk30 v175), ∀ a, (k1_off30 v175) a + S1x128.size a ≤ S32768x128.size a := fun v175 k1_hw30 => k1_hw30.1
theorem k1_off94_inb : ∀ (v175 : BitVec 32) (k1_hw30 : k1_chk30 v175), ∀ a, (k1_off94 v175) a + S1x128.size a ≤ S32768x128.size a := fun v175 k1_hw30 => k1_hw30.2

def k1_off95 (v181 : BitVec 32) : Fin 2 → Nat :=
  let c0_i32_285 : BitVec 32 := 0#32
  ![v181.toNat, 0]

def k1_chk31 (v181 : BitVec 32) : Prop :=
  (∀ a, (k1_off31 v181) a + S1x128.size a ≤ S32768x128.size a) ∧
  (∀ a, (k1_off95 v181) a + S1x128.size a ≤ S32768x128.size a)
theorem k1_off31_inb : ∀ (v181 : BitVec 32) (k1_hw31 : k1_chk31 v181), ∀ a, (k1_off31 v181) a + S1x128.size a ≤ S32768x128.size a := fun v181 k1_hw31 => k1_hw31.1
theorem k1_off95_inb : ∀ (v181 : BitVec 32) (k1_hw31 : k1_chk31 v181), ∀ a, (k1_off95 v181) a + S1x128.size a ≤ S32768x128.size a := fun v181 k1_hw31 => k1_hw31.2

def k1_off96 (v187 : BitVec 32) : Fin 2 → Nat :=
  let c0_i32_288 : BitVec 32 := 0#32
  ![v187.toNat, 0]

def k1_chk32 (v187 : BitVec 32) : Prop :=
  (∀ a, (k1_off32 v187) a + S1x128.size a ≤ S32768x128.size a) ∧
  (∀ a, (k1_off96 v187) a + S1x128.size a ≤ S32768x128.size a)
theorem k1_off32_inb : ∀ (v187 : BitVec 32) (k1_hw32 : k1_chk32 v187), ∀ a, (k1_off32 v187) a + S1x128.size a ≤ S32768x128.size a := fun v187 k1_hw32 => k1_hw32.1
theorem k1_off96_inb : ∀ (v187 : BitVec 32) (k1_hw32 : k1_chk32 v187), ∀ a, (k1_off96 v187) a + S1x128.size a ≤ S32768x128.size a := fun v187 k1_hw32 => k1_hw32.2

def k1_off97 (v193 : BitVec 32) : Fin 2 → Nat :=
  let c0_i32_291 : BitVec 32 := 0#32
  ![v193.toNat, 0]

def k1_chk33 (v193 : BitVec 32) : Prop :=
  (∀ a, (k1_off33 v193) a + S1x128.size a ≤ S32768x128.size a) ∧
  (∀ a, (k1_off97 v193) a + S1x128.size a ≤ S32768x128.size a)
theorem k1_off33_inb : ∀ (v193 : BitVec 32) (k1_hw33 : k1_chk33 v193), ∀ a, (k1_off33 v193) a + S1x128.size a ≤ S32768x128.size a := fun v193 k1_hw33 => k1_hw33.1
theorem k1_off97_inb : ∀ (v193 : BitVec 32) (k1_hw33 : k1_chk33 v193), ∀ a, (k1_off97 v193) a + S1x128.size a ≤ S32768x128.size a := fun v193 k1_hw33 => k1_hw33.2

def k1_off98 (v199 : BitVec 32) : Fin 2 → Nat :=
  let c0_i32_294 : BitVec 32 := 0#32
  ![v199.toNat, 0]

def k1_chk34 (v199 : BitVec 32) : Prop :=
  (∀ a, (k1_off34 v199) a + S1x128.size a ≤ S32768x128.size a) ∧
  (∀ a, (k1_off98 v199) a + S1x128.size a ≤ S32768x128.size a)
theorem k1_off34_inb : ∀ (v199 : BitVec 32) (k1_hw34 : k1_chk34 v199), ∀ a, (k1_off34 v199) a + S1x128.size a ≤ S32768x128.size a := fun v199 k1_hw34 => k1_hw34.1
theorem k1_off98_inb : ∀ (v199 : BitVec 32) (k1_hw34 : k1_chk34 v199), ∀ a, (k1_off98 v199) a + S1x128.size a ≤ S32768x128.size a := fun v199 k1_hw34 => k1_hw34.2

def k1_off99 (v205 : BitVec 32) : Fin 2 → Nat :=
  let c0_i32_297 : BitVec 32 := 0#32
  ![v205.toNat, 0]

def k1_chk35 (v205 : BitVec 32) : Prop :=
  (∀ a, (k1_off35 v205) a + S1x128.size a ≤ S32768x128.size a) ∧
  (∀ a, (k1_off99 v205) a + S1x128.size a ≤ S32768x128.size a)
theorem k1_off35_inb : ∀ (v205 : BitVec 32) (k1_hw35 : k1_chk35 v205), ∀ a, (k1_off35 v205) a + S1x128.size a ≤ S32768x128.size a := fun v205 k1_hw35 => k1_hw35.1
theorem k1_off99_inb : ∀ (v205 : BitVec 32) (k1_hw35 : k1_chk35 v205), ∀ a, (k1_off99 v205) a + S1x128.size a ≤ S32768x128.size a := fun v205 k1_hw35 => k1_hw35.2

def k1_off100 (v211 : BitVec 32) : Fin 2 → Nat :=
  let c0_i32_300 : BitVec 32 := 0#32
  ![v211.toNat, 0]

def k1_chk36 (v211 : BitVec 32) : Prop :=
  (∀ a, (k1_off36 v211) a + S1x128.size a ≤ S32768x128.size a) ∧
  (∀ a, (k1_off100 v211) a + S1x128.size a ≤ S32768x128.size a)
theorem k1_off36_inb : ∀ (v211 : BitVec 32) (k1_hw36 : k1_chk36 v211), ∀ a, (k1_off36 v211) a + S1x128.size a ≤ S32768x128.size a := fun v211 k1_hw36 => k1_hw36.1
theorem k1_off100_inb : ∀ (v211 : BitVec 32) (k1_hw36 : k1_chk36 v211), ∀ a, (k1_off100 v211) a + S1x128.size a ≤ S32768x128.size a := fun v211 k1_hw36 => k1_hw36.2

def k1_off101 (v217 : BitVec 32) : Fin 2 → Nat :=
  let c0_i32_303 : BitVec 32 := 0#32
  ![v217.toNat, 0]

def k1_chk37 (v217 : BitVec 32) : Prop :=
  (∀ a, (k1_off37 v217) a + S1x128.size a ≤ S32768x128.size a) ∧
  (∀ a, (k1_off101 v217) a + S1x128.size a ≤ S32768x128.size a)
theorem k1_off37_inb : ∀ (v217 : BitVec 32) (k1_hw37 : k1_chk37 v217), ∀ a, (k1_off37 v217) a + S1x128.size a ≤ S32768x128.size a := fun v217 k1_hw37 => k1_hw37.1
theorem k1_off101_inb : ∀ (v217 : BitVec 32) (k1_hw37 : k1_chk37 v217), ∀ a, (k1_off101 v217) a + S1x128.size a ≤ S32768x128.size a := fun v217 k1_hw37 => k1_hw37.2

def k1_off102 (v223 : BitVec 32) : Fin 2 → Nat :=
  let c0_i32_306 : BitVec 32 := 0#32
  ![v223.toNat, 0]

def k1_chk38 (v223 : BitVec 32) : Prop :=
  (∀ a, (k1_off38 v223) a + S1x128.size a ≤ S32768x128.size a) ∧
  (∀ a, (k1_off102 v223) a + S1x128.size a ≤ S32768x128.size a)
theorem k1_off38_inb : ∀ (v223 : BitVec 32) (k1_hw38 : k1_chk38 v223), ∀ a, (k1_off38 v223) a + S1x128.size a ≤ S32768x128.size a := fun v223 k1_hw38 => k1_hw38.1
theorem k1_off102_inb : ∀ (v223 : BitVec 32) (k1_hw38 : k1_chk38 v223), ∀ a, (k1_off102 v223) a + S1x128.size a ≤ S32768x128.size a := fun v223 k1_hw38 => k1_hw38.2

def k1_off103 (v229 : BitVec 32) : Fin 2 → Nat :=
  let c0_i32_309 : BitVec 32 := 0#32
  ![v229.toNat, 0]

def k1_chk39 (v229 : BitVec 32) : Prop :=
  (∀ a, (k1_off39 v229) a + S1x128.size a ≤ S32768x128.size a) ∧
  (∀ a, (k1_off103 v229) a + S1x128.size a ≤ S32768x128.size a)
theorem k1_off39_inb : ∀ (v229 : BitVec 32) (k1_hw39 : k1_chk39 v229), ∀ a, (k1_off39 v229) a + S1x128.size a ≤ S32768x128.size a := fun v229 k1_hw39 => k1_hw39.1
theorem k1_off103_inb : ∀ (v229 : BitVec 32) (k1_hw39 : k1_chk39 v229), ∀ a, (k1_off103 v229) a + S1x128.size a ≤ S32768x128.size a := fun v229 k1_hw39 => k1_hw39.2

def k1_off104 (v235 : BitVec 32) : Fin 2 → Nat :=
  let c0_i32_312 : BitVec 32 := 0#32
  ![v235.toNat, 0]

def k1_chk40 (v235 : BitVec 32) : Prop :=
  (∀ a, (k1_off40 v235) a + S1x128.size a ≤ S32768x128.size a) ∧
  (∀ a, (k1_off104 v235) a + S1x128.size a ≤ S32768x128.size a)
theorem k1_off40_inb : ∀ (v235 : BitVec 32) (k1_hw40 : k1_chk40 v235), ∀ a, (k1_off40 v235) a + S1x128.size a ≤ S32768x128.size a := fun v235 k1_hw40 => k1_hw40.1
theorem k1_off104_inb : ∀ (v235 : BitVec 32) (k1_hw40 : k1_chk40 v235), ∀ a, (k1_off104 v235) a + S1x128.size a ≤ S32768x128.size a := fun v235 k1_hw40 => k1_hw40.2

def k1_off105 (v241 : BitVec 32) : Fin 2 → Nat :=
  let c0_i32_315 : BitVec 32 := 0#32
  ![v241.toNat, 0]

def k1_chk41 (v241 : BitVec 32) : Prop :=
  (∀ a, (k1_off41 v241) a + S1x128.size a ≤ S32768x128.size a) ∧
  (∀ a, (k1_off105 v241) a + S1x128.size a ≤ S32768x128.size a)
theorem k1_off41_inb : ∀ (v241 : BitVec 32) (k1_hw41 : k1_chk41 v241), ∀ a, (k1_off41 v241) a + S1x128.size a ≤ S32768x128.size a := fun v241 k1_hw41 => k1_hw41.1
theorem k1_off105_inb : ∀ (v241 : BitVec 32) (k1_hw41 : k1_chk41 v241), ∀ a, (k1_off105 v241) a + S1x128.size a ≤ S32768x128.size a := fun v241 k1_hw41 => k1_hw41.2

def k1_off106 (v247 : BitVec 32) : Fin 2 → Nat :=
  let c0_i32_318 : BitVec 32 := 0#32
  ![v247.toNat, 0]

def k1_chk42 (v247 : BitVec 32) : Prop :=
  (∀ a, (k1_off42 v247) a + S1x128.size a ≤ S32768x128.size a) ∧
  (∀ a, (k1_off106 v247) a + S1x128.size a ≤ S32768x128.size a)
theorem k1_off42_inb : ∀ (v247 : BitVec 32) (k1_hw42 : k1_chk42 v247), ∀ a, (k1_off42 v247) a + S1x128.size a ≤ S32768x128.size a := fun v247 k1_hw42 => k1_hw42.1
theorem k1_off106_inb : ∀ (v247 : BitVec 32) (k1_hw42 : k1_chk42 v247), ∀ a, (k1_off106 v247) a + S1x128.size a ≤ S32768x128.size a := fun v247 k1_hw42 => k1_hw42.2

def k1_off107 (v253 : BitVec 32) : Fin 2 → Nat :=
  let c0_i32_321 : BitVec 32 := 0#32
  ![v253.toNat, 0]

def k1_chk43 (v253 : BitVec 32) : Prop :=
  (∀ a, (k1_off43 v253) a + S1x128.size a ≤ S32768x128.size a) ∧
  (∀ a, (k1_off107 v253) a + S1x128.size a ≤ S32768x128.size a)
theorem k1_off43_inb : ∀ (v253 : BitVec 32) (k1_hw43 : k1_chk43 v253), ∀ a, (k1_off43 v253) a + S1x128.size a ≤ S32768x128.size a := fun v253 k1_hw43 => k1_hw43.1
theorem k1_off107_inb : ∀ (v253 : BitVec 32) (k1_hw43 : k1_chk43 v253), ∀ a, (k1_off107 v253) a + S1x128.size a ≤ S32768x128.size a := fun v253 k1_hw43 => k1_hw43.2

def k1_off108 (v259 : BitVec 32) : Fin 2 → Nat :=
  let c0_i32_324 : BitVec 32 := 0#32
  ![v259.toNat, 0]

def k1_chk44 (v259 : BitVec 32) : Prop :=
  (∀ a, (k1_off44 v259) a + S1x128.size a ≤ S32768x128.size a) ∧
  (∀ a, (k1_off108 v259) a + S1x128.size a ≤ S32768x128.size a)
theorem k1_off44_inb : ∀ (v259 : BitVec 32) (k1_hw44 : k1_chk44 v259), ∀ a, (k1_off44 v259) a + S1x128.size a ≤ S32768x128.size a := fun v259 k1_hw44 => k1_hw44.1
theorem k1_off108_inb : ∀ (v259 : BitVec 32) (k1_hw44 : k1_chk44 v259), ∀ a, (k1_off108 v259) a + S1x128.size a ≤ S32768x128.size a := fun v259 k1_hw44 => k1_hw44.2

def k1_off109 (v265 : BitVec 32) : Fin 2 → Nat :=
  let c0_i32_327 : BitVec 32 := 0#32
  ![v265.toNat, 0]

def k1_chk45 (v265 : BitVec 32) : Prop :=
  (∀ a, (k1_off45 v265) a + S1x128.size a ≤ S32768x128.size a) ∧
  (∀ a, (k1_off109 v265) a + S1x128.size a ≤ S32768x128.size a)
theorem k1_off45_inb : ∀ (v265 : BitVec 32) (k1_hw45 : k1_chk45 v265), ∀ a, (k1_off45 v265) a + S1x128.size a ≤ S32768x128.size a := fun v265 k1_hw45 => k1_hw45.1
theorem k1_off109_inb : ∀ (v265 : BitVec 32) (k1_hw45 : k1_chk45 v265), ∀ a, (k1_off109 v265) a + S1x128.size a ≤ S32768x128.size a := fun v265 k1_hw45 => k1_hw45.2

def k1_off110 (v271 : BitVec 32) : Fin 2 → Nat :=
  let c0_i32_330 : BitVec 32 := 0#32
  ![v271.toNat, 0]

def k1_chk46 (v271 : BitVec 32) : Prop :=
  (∀ a, (k1_off46 v271) a + S1x128.size a ≤ S32768x128.size a) ∧
  (∀ a, (k1_off110 v271) a + S1x128.size a ≤ S32768x128.size a)
theorem k1_off46_inb : ∀ (v271 : BitVec 32) (k1_hw46 : k1_chk46 v271), ∀ a, (k1_off46 v271) a + S1x128.size a ≤ S32768x128.size a := fun v271 k1_hw46 => k1_hw46.1
theorem k1_off110_inb : ∀ (v271 : BitVec 32) (k1_hw46 : k1_chk46 v271), ∀ a, (k1_off110 v271) a + S1x128.size a ≤ S32768x128.size a := fun v271 k1_hw46 => k1_hw46.2

def k1_off111 (v277 : BitVec 32) : Fin 2 → Nat :=
  let c0_i32_333 : BitVec 32 := 0#32
  ![v277.toNat, 0]

def k1_chk47 (v277 : BitVec 32) : Prop :=
  (∀ a, (k1_off47 v277) a + S1x128.size a ≤ S32768x128.size a) ∧
  (∀ a, (k1_off111 v277) a + S1x128.size a ≤ S32768x128.size a)
theorem k1_off47_inb : ∀ (v277 : BitVec 32) (k1_hw47 : k1_chk47 v277), ∀ a, (k1_off47 v277) a + S1x128.size a ≤ S32768x128.size a := fun v277 k1_hw47 => k1_hw47.1
theorem k1_off111_inb : ∀ (v277 : BitVec 32) (k1_hw47 : k1_chk47 v277), ∀ a, (k1_off111 v277) a + S1x128.size a ≤ S32768x128.size a := fun v277 k1_hw47 => k1_hw47.2

def k1_off112 (v283 : BitVec 32) : Fin 2 → Nat :=
  let c0_i32_336 : BitVec 32 := 0#32
  ![v283.toNat, 0]

def k1_chk48 (v283 : BitVec 32) : Prop :=
  (∀ a, (k1_off48 v283) a + S1x128.size a ≤ S32768x128.size a) ∧
  (∀ a, (k1_off112 v283) a + S1x128.size a ≤ S32768x128.size a)
theorem k1_off48_inb : ∀ (v283 : BitVec 32) (k1_hw48 : k1_chk48 v283), ∀ a, (k1_off48 v283) a + S1x128.size a ≤ S32768x128.size a := fun v283 k1_hw48 => k1_hw48.1
theorem k1_off112_inb : ∀ (v283 : BitVec 32) (k1_hw48 : k1_chk48 v283), ∀ a, (k1_off112 v283) a + S1x128.size a ≤ S32768x128.size a := fun v283 k1_hw48 => k1_hw48.2

def k1_off113 (v289 : BitVec 32) : Fin 2 → Nat :=
  let c0_i32_339 : BitVec 32 := 0#32
  ![v289.toNat, 0]

def k1_chk49 (v289 : BitVec 32) : Prop :=
  (∀ a, (k1_off49 v289) a + S1x128.size a ≤ S32768x128.size a) ∧
  (∀ a, (k1_off113 v289) a + S1x128.size a ≤ S32768x128.size a)
theorem k1_off49_inb : ∀ (v289 : BitVec 32) (k1_hw49 : k1_chk49 v289), ∀ a, (k1_off49 v289) a + S1x128.size a ≤ S32768x128.size a := fun v289 k1_hw49 => k1_hw49.1
theorem k1_off113_inb : ∀ (v289 : BitVec 32) (k1_hw49 : k1_chk49 v289), ∀ a, (k1_off113 v289) a + S1x128.size a ≤ S32768x128.size a := fun v289 k1_hw49 => k1_hw49.2

def k1_off114 (v295 : BitVec 32) : Fin 2 → Nat :=
  let c0_i32_342 : BitVec 32 := 0#32
  ![v295.toNat, 0]

def k1_chk50 (v295 : BitVec 32) : Prop :=
  (∀ a, (k1_off50 v295) a + S1x128.size a ≤ S32768x128.size a) ∧
  (∀ a, (k1_off114 v295) a + S1x128.size a ≤ S32768x128.size a)
theorem k1_off50_inb : ∀ (v295 : BitVec 32) (k1_hw50 : k1_chk50 v295), ∀ a, (k1_off50 v295) a + S1x128.size a ≤ S32768x128.size a := fun v295 k1_hw50 => k1_hw50.1
theorem k1_off114_inb : ∀ (v295 : BitVec 32) (k1_hw50 : k1_chk50 v295), ∀ a, (k1_off114 v295) a + S1x128.size a ≤ S32768x128.size a := fun v295 k1_hw50 => k1_hw50.2

def k1_off115 (v301 : BitVec 32) : Fin 2 → Nat :=
  let c0_i32_345 : BitVec 32 := 0#32
  ![v301.toNat, 0]

def k1_chk51 (v301 : BitVec 32) : Prop :=
  (∀ a, (k1_off51 v301) a + S1x128.size a ≤ S32768x128.size a) ∧
  (∀ a, (k1_off115 v301) a + S1x128.size a ≤ S32768x128.size a)
theorem k1_off51_inb : ∀ (v301 : BitVec 32) (k1_hw51 : k1_chk51 v301), ∀ a, (k1_off51 v301) a + S1x128.size a ≤ S32768x128.size a := fun v301 k1_hw51 => k1_hw51.1
theorem k1_off115_inb : ∀ (v301 : BitVec 32) (k1_hw51 : k1_chk51 v301), ∀ a, (k1_off115 v301) a + S1x128.size a ≤ S32768x128.size a := fun v301 k1_hw51 => k1_hw51.2

def k1_off116 (v307 : BitVec 32) : Fin 2 → Nat :=
  let c0_i32_348 : BitVec 32 := 0#32
  ![v307.toNat, 0]

def k1_chk52 (v307 : BitVec 32) : Prop :=
  (∀ a, (k1_off52 v307) a + S1x128.size a ≤ S32768x128.size a) ∧
  (∀ a, (k1_off116 v307) a + S1x128.size a ≤ S32768x128.size a)
theorem k1_off52_inb : ∀ (v307 : BitVec 32) (k1_hw52 : k1_chk52 v307), ∀ a, (k1_off52 v307) a + S1x128.size a ≤ S32768x128.size a := fun v307 k1_hw52 => k1_hw52.1
theorem k1_off116_inb : ∀ (v307 : BitVec 32) (k1_hw52 : k1_chk52 v307), ∀ a, (k1_off116 v307) a + S1x128.size a ≤ S32768x128.size a := fun v307 k1_hw52 => k1_hw52.2

def k1_off117 (v313 : BitVec 32) : Fin 2 → Nat :=
  let c0_i32_351 : BitVec 32 := 0#32
  ![v313.toNat, 0]

def k1_chk53 (v313 : BitVec 32) : Prop :=
  (∀ a, (k1_off53 v313) a + S1x128.size a ≤ S32768x128.size a) ∧
  (∀ a, (k1_off117 v313) a + S1x128.size a ≤ S32768x128.size a)
theorem k1_off53_inb : ∀ (v313 : BitVec 32) (k1_hw53 : k1_chk53 v313), ∀ a, (k1_off53 v313) a + S1x128.size a ≤ S32768x128.size a := fun v313 k1_hw53 => k1_hw53.1
theorem k1_off117_inb : ∀ (v313 : BitVec 32) (k1_hw53 : k1_chk53 v313), ∀ a, (k1_off117 v313) a + S1x128.size a ≤ S32768x128.size a := fun v313 k1_hw53 => k1_hw53.2

def k1_off118 (v319 : BitVec 32) : Fin 2 → Nat :=
  let c0_i32_354 : BitVec 32 := 0#32
  ![v319.toNat, 0]

def k1_chk54 (v319 : BitVec 32) : Prop :=
  (∀ a, (k1_off54 v319) a + S1x128.size a ≤ S32768x128.size a) ∧
  (∀ a, (k1_off118 v319) a + S1x128.size a ≤ S32768x128.size a)
theorem k1_off54_inb : ∀ (v319 : BitVec 32) (k1_hw54 : k1_chk54 v319), ∀ a, (k1_off54 v319) a + S1x128.size a ≤ S32768x128.size a := fun v319 k1_hw54 => k1_hw54.1
theorem k1_off118_inb : ∀ (v319 : BitVec 32) (k1_hw54 : k1_chk54 v319), ∀ a, (k1_off118 v319) a + S1x128.size a ≤ S32768x128.size a := fun v319 k1_hw54 => k1_hw54.2

def k1_off119 (v325 : BitVec 32) : Fin 2 → Nat :=
  let c0_i32_357 : BitVec 32 := 0#32
  ![v325.toNat, 0]

def k1_chk55 (v325 : BitVec 32) : Prop :=
  (∀ a, (k1_off55 v325) a + S1x128.size a ≤ S32768x128.size a) ∧
  (∀ a, (k1_off119 v325) a + S1x128.size a ≤ S32768x128.size a)
theorem k1_off55_inb : ∀ (v325 : BitVec 32) (k1_hw55 : k1_chk55 v325), ∀ a, (k1_off55 v325) a + S1x128.size a ≤ S32768x128.size a := fun v325 k1_hw55 => k1_hw55.1
theorem k1_off119_inb : ∀ (v325 : BitVec 32) (k1_hw55 : k1_chk55 v325), ∀ a, (k1_off119 v325) a + S1x128.size a ≤ S32768x128.size a := fun v325 k1_hw55 => k1_hw55.2

def k1_off120 (v331 : BitVec 32) : Fin 2 → Nat :=
  let c0_i32_360 : BitVec 32 := 0#32
  ![v331.toNat, 0]

def k1_chk56 (v331 : BitVec 32) : Prop :=
  (∀ a, (k1_off56 v331) a + S1x128.size a ≤ S32768x128.size a) ∧
  (∀ a, (k1_off120 v331) a + S1x128.size a ≤ S32768x128.size a)
theorem k1_off56_inb : ∀ (v331 : BitVec 32) (k1_hw56 : k1_chk56 v331), ∀ a, (k1_off56 v331) a + S1x128.size a ≤ S32768x128.size a := fun v331 k1_hw56 => k1_hw56.1
theorem k1_off120_inb : ∀ (v331 : BitVec 32) (k1_hw56 : k1_chk56 v331), ∀ a, (k1_off120 v331) a + S1x128.size a ≤ S32768x128.size a := fun v331 k1_hw56 => k1_hw56.2

def k1_off121 (v337 : BitVec 32) : Fin 2 → Nat :=
  let c0_i32_363 : BitVec 32 := 0#32
  ![v337.toNat, 0]

def k1_chk57 (v337 : BitVec 32) : Prop :=
  (∀ a, (k1_off57 v337) a + S1x128.size a ≤ S32768x128.size a) ∧
  (∀ a, (k1_off121 v337) a + S1x128.size a ≤ S32768x128.size a)
theorem k1_off57_inb : ∀ (v337 : BitVec 32) (k1_hw57 : k1_chk57 v337), ∀ a, (k1_off57 v337) a + S1x128.size a ≤ S32768x128.size a := fun v337 k1_hw57 => k1_hw57.1
theorem k1_off121_inb : ∀ (v337 : BitVec 32) (k1_hw57 : k1_chk57 v337), ∀ a, (k1_off121 v337) a + S1x128.size a ≤ S32768x128.size a := fun v337 k1_hw57 => k1_hw57.2

def k1_off122 (v343 : BitVec 32) : Fin 2 → Nat :=
  let c0_i32_366 : BitVec 32 := 0#32
  ![v343.toNat, 0]

def k1_chk58 (v343 : BitVec 32) : Prop :=
  (∀ a, (k1_off58 v343) a + S1x128.size a ≤ S32768x128.size a) ∧
  (∀ a, (k1_off122 v343) a + S1x128.size a ≤ S32768x128.size a)
theorem k1_off58_inb : ∀ (v343 : BitVec 32) (k1_hw58 : k1_chk58 v343), ∀ a, (k1_off58 v343) a + S1x128.size a ≤ S32768x128.size a := fun v343 k1_hw58 => k1_hw58.1
theorem k1_off122_inb : ∀ (v343 : BitVec 32) (k1_hw58 : k1_chk58 v343), ∀ a, (k1_off122 v343) a + S1x128.size a ≤ S32768x128.size a := fun v343 k1_hw58 => k1_hw58.2

def k1_off123 (v349 : BitVec 32) : Fin 2 → Nat :=
  let c0_i32_369 : BitVec 32 := 0#32
  ![v349.toNat, 0]

def k1_chk59 (v349 : BitVec 32) : Prop :=
  (∀ a, (k1_off59 v349) a + S1x128.size a ≤ S32768x128.size a) ∧
  (∀ a, (k1_off123 v349) a + S1x128.size a ≤ S32768x128.size a)
theorem k1_off59_inb : ∀ (v349 : BitVec 32) (k1_hw59 : k1_chk59 v349), ∀ a, (k1_off59 v349) a + S1x128.size a ≤ S32768x128.size a := fun v349 k1_hw59 => k1_hw59.1
theorem k1_off123_inb : ∀ (v349 : BitVec 32) (k1_hw59 : k1_chk59 v349), ∀ a, (k1_off123 v349) a + S1x128.size a ≤ S32768x128.size a := fun v349 k1_hw59 => k1_hw59.2

def k1_off124 (v355 : BitVec 32) : Fin 2 → Nat :=
  let c0_i32_372 : BitVec 32 := 0#32
  ![v355.toNat, 0]

def k1_chk60 (v355 : BitVec 32) : Prop :=
  (∀ a, (k1_off60 v355) a + S1x128.size a ≤ S32768x128.size a) ∧
  (∀ a, (k1_off124 v355) a + S1x128.size a ≤ S32768x128.size a)
theorem k1_off60_inb : ∀ (v355 : BitVec 32) (k1_hw60 : k1_chk60 v355), ∀ a, (k1_off60 v355) a + S1x128.size a ≤ S32768x128.size a := fun v355 k1_hw60 => k1_hw60.1
theorem k1_off124_inb : ∀ (v355 : BitVec 32) (k1_hw60 : k1_chk60 v355), ∀ a, (k1_off124 v355) a + S1x128.size a ≤ S32768x128.size a := fun v355 k1_hw60 => k1_hw60.2

def k1_off125 (v361 : BitVec 32) : Fin 2 → Nat :=
  let c0_i32_375 : BitVec 32 := 0#32
  ![v361.toNat, 0]

def k1_chk61 (v361 : BitVec 32) : Prop :=
  (∀ a, (k1_off61 v361) a + S1x128.size a ≤ S32768x128.size a) ∧
  (∀ a, (k1_off125 v361) a + S1x128.size a ≤ S32768x128.size a)
theorem k1_off61_inb : ∀ (v361 : BitVec 32) (k1_hw61 : k1_chk61 v361), ∀ a, (k1_off61 v361) a + S1x128.size a ≤ S32768x128.size a := fun v361 k1_hw61 => k1_hw61.1
theorem k1_off125_inb : ∀ (v361 : BitVec 32) (k1_hw61 : k1_chk61 v361), ∀ a, (k1_off125 v361) a + S1x128.size a ≤ S32768x128.size a := fun v361 k1_hw61 => k1_hw61.2

def k1_off126 (v367 : BitVec 32) : Fin 2 → Nat :=
  let c0_i32_378 : BitVec 32 := 0#32
  ![v367.toNat, 0]

def k1_chk62 (v367 : BitVec 32) : Prop :=
  (∀ a, (k1_off62 v367) a + S1x128.size a ≤ S32768x128.size a) ∧
  (∀ a, (k1_off126 v367) a + S1x128.size a ≤ S32768x128.size a)
theorem k1_off62_inb : ∀ (v367 : BitVec 32) (k1_hw62 : k1_chk62 v367), ∀ a, (k1_off62 v367) a + S1x128.size a ≤ S32768x128.size a := fun v367 k1_hw62 => k1_hw62.1
theorem k1_off126_inb : ∀ (v367 : BitVec 32) (k1_hw62 : k1_chk62 v367), ∀ a, (k1_off126 v367) a + S1x128.size a ≤ S32768x128.size a := fun v367 k1_hw62 => k1_hw62.2

def k1_off127 (v373 : BitVec 32) : Fin 2 → Nat :=
  let c0_i32_381 : BitVec 32 := 0#32
  ![v373.toNat, 0]

def k1_chk63 (v373 : BitVec 32) : Prop :=
  (∀ a, (k1_off63 v373) a + S1x128.size a ≤ S32768x128.size a) ∧
  (∀ a, (k1_off127 v373) a + S1x128.size a ≤ S32768x128.size a)
theorem k1_off63_inb : ∀ (v373 : BitVec 32) (k1_hw63 : k1_chk63 v373), ∀ a, (k1_off63 v373) a + S1x128.size a ≤ S32768x128.size a := fun v373 k1_hw63 => k1_hw63.1
theorem k1_off127_inb : ∀ (v373 : BitVec 32) (k1_hw63 : k1_chk63 v373), ∀ a, (k1_off127 v373) a + S1x128.size a ≤ S32768x128.size a := fun v373 k1_hw63 => k1_hw63.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S32768x128 : Shape := ⟨2, ![32768, 128]⟩
abbrev S1x1024 : Shape := ⟨2, ![1, 1024]⟩
abbrev S128x1024 : Shape := ⟨2, ![128, 1024]⟩
abbrev S128 : Shape := ⟨1, ![128]⟩
abbrev S1024x128 : Shape := ⟨2, ![1024, 128]⟩
abbrev S1x128 : Shape := ⟨2, ![1, 128]⟩
abbrev S128x1 : Shape := ⟨2, ![128, 1]⟩
abbrev S32768x1 : Shape := ⟨2, ![32768, 1]⟩
abbrev S32768 : Shape := ⟨1, ![32768]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x128 : Shape := ⟨2, ![64, 128]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1x1024, .f32⟩
  | .hbm, ⟨2, _⟩ => ⟨S128x1024, .f32⟩
  | .hbm, ⟨3, _⟩ => ⟨S128, .f32⟩
  | .hbm, ⟨4, _⟩ => ⟨S1024x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S128x1, .f32⟩
  | .hbm, ⟨9, _⟩ => ⟨S32768x1, .f32⟩
  | .hbm, ⟨10, _⟩ => ⟨S32768, .f32⟩
  | .hbm, ⟨11, _⟩ => ⟨S32768, .i32⟩
  | .hbm, ⟨12, _⟩ => ⟨S32768, .f32⟩
  | .hbm, ⟨13, _⟩ => ⟨S32768, .i32⟩
  | .hbm, ⟨14, _⟩ => ⟨S32768, .i32⟩
  | .hbm, ⟨15, _⟩ => ⟨S32768, .i32⟩
  | .hbm, ⟨16, _⟩ => ⟨S32768, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S64x1, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64x1, .i32⟩
  | .hbm, ⟨39, _⟩ => ⟨S1, .i32⟩
  | .hbm, ⟨40, _⟩ => ⟨S_, .i32⟩
  | .hbm, ⟨41, _⟩ => ⟨S64x1, .i32⟩
  | .hbm, ⟨42, _⟩ => ⟨S64x1, .i1⟩
  | .hbm, ⟨43, _⟩ => ⟨S1x1, .i32⟩
  | .hbm, ⟨44, _⟩ => ⟨S64x1, .i32⟩
  | .hbm, ⟨45, _⟩ => ⟨S64x1, .i1⟩
  | .hbm, ⟨46, _⟩ => ⟨S64x1, .i1⟩
  | .hbm, ⟨47, _⟩ => ⟨S_, .i1⟩
  | .hbm, ⟨48, _⟩ => ⟨S64, .i1⟩
  | .hbm, ⟨49, _⟩ => ⟨S64x128, .f32⟩
  | .hbm, ⟨50, _⟩ => ⟨S64x128, .i1⟩
  | .hbm, ⟨51, _⟩ => ⟨S_, .f32⟩
  | .hbm, ⟨52, _⟩ => ⟨S64x128, .f32⟩
  | .hbm, ⟨53, _⟩ => ⟨S64x128, .f32⟩
  | .hbm, ⟨54, _⟩ => ⟨S1x8192, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1_0 : Ref sig .tc := ⟨.hbm, 12, rfl⟩
abbrev main_v7 : Ref sig .tc := ⟨.hbm, 13, rfl⟩
abbrev main_call1_v0 : Ref sig .tc := ⟨.hbm, 14, rfl⟩
abbrev main_call1_v1_0 : Ref sig .tc := ⟨.hbm, 15, rfl⟩
abbrev main_v8 : Ref sig .tc := ⟨.hbm, 16, rfl⟩
abbrev main_v9 : Ref sig .tc := ⟨.hbm, 17, rfl⟩
abbrev main_call2_v0 : Ref sig .tc := ⟨.hbm, 18, rfl⟩
abbrev main_call2_v1_0 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call3_c : Ref sig .tc := ⟨.hbm, 31, rfl⟩
abbrev main_call3_v0 : Ref sig .tc := ⟨.hbm, 32, rfl⟩
abbrev main_call3_v1 : Ref sig .tc := ⟨.hbm, 33, rfl⟩
abbrev main_call3_c_0 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_c_1 : Ref sig .tc := ⟨.hbm, 39, rfl⟩
abbrev main_call3_c_2 : Ref sig .tc := ⟨.hbm, 40, rfl⟩
abbrev main_call3_v6 : Ref sig .tc := ⟨.hbm, 41, rfl⟩
abbrev main_call3_v7 : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_v11 : Ref sig .tc := ⟨.hbm, 46, rfl⟩
abbrev main_call3_c_3 : Ref sig .tc := ⟨.hbm, 47, rfl⟩
abbrev main_call3_v12 : Ref sig .tc := ⟨.hbm, 48, rfl⟩
abbrev main_call3_v13 : Ref sig .tc := ⟨.hbm, 49, rfl⟩
abbrev main_call3_v14 : Ref sig .tc := ⟨.hbm, 50, rfl⟩
abbrev main_call3_cst : Ref sig .tc := ⟨.hbm, 51, rfl⟩
abbrev main_call3_v15 : Ref sig .tc := ⟨.hbm, 52, rfl⟩
abbrev main_v19 : Ref sig .tc := ⟨.hbm, 53, rfl⟩
abbrev main_v20 : Ref sig .tc := ⟨.hbm, 54, rfl⟩

abbrev nD : Nat := 1
abbrev τ : Topo := Topo.v7x

variable {F : FTy → Type} [FloatOps F]
-- ==== Proof.Common.lean ====
/-
  The kernel's machine as the SparseCore launch sees it: the signature and body table, the resource algebra (the handshake
  rounds, the TensorCore pipeline's rounds, and the counters of the gather's transfers), and the buffers by name.
-/
module

public import proofs.«01_k».proof.Defs
public import Idealize.ShloMosaic.Lib.SparseCore.Quiescent
public import Idealize.ShloMosaic.Lib.StableHlo.Run
public import Idealize.ShloMosaic.Lib.Tactic
public import Idealize.ShloMosaic.Lib.Batch
public import Idealize.ShloMosaic.Lib.ValueLayout
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no SparseCore buffer is shared with its tiles. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The nodes, the selection the first call computes, the gathered rows. -/
abbrev nLoc (d : Dev nD) : Loc nD τ sig := (SparseCore.T d).loc main_arg0
abbrev sLoc (d : Dev nD) : Loc nD τ sig := (SparseCore.T d).loc main_v1
abbrev oLoc (d : Dev nD) : Loc nD τ sig := (SparseCore.T d).loc main_v2

abbrev nM : Memref sig .scScalar .hbm S32768x128 .f32 := Memref.whole main_arg0_scs
abbrev sM : Memref sig .scScalar .hbm S1x64 .i32 := Memref.whole main_v1_scs
abbrev oM : Memref sig .scScalar .hbm S64x128 .f32 := Memref.whole main_v2_scs
abbrev iM : Memref sig .scScalar .smem S64 .i32 := Memref.whole cc1_scratch0

/-- The sequencer's core at grid coordinate `L`. -/
abbrev cS (L : grid1.Coords) : Fin τ.nSC := (L 0).castLE hcore1

end Cert.Proof.Sc

end
-- ==== Proof.Rank.lean ====
/-
  The first call: the TensorCore's kernel that ranks the first 64 rows. Its one grid point loads the four staged operands
  whole and stores the selection; the region takes the five arrays and brings them back, the selection's rewritten.
-/
module

public import proofs.«01_k».proof.Proof.Common
public import Idealize.ShloMosaic.Lib.Pipeline.RegionArraysS
public import Idealize.ShloMosaic.Lib.VecWindow

@[expose] public section

noncomputable section

namespace Cert.Proof.Sc

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat)

variable {F : FTy → Type} [FloatOps F]

local notation "𝕄" => MT nD τ sig (HIx 1) (Elt F) ℕ UU ℕ

/-- Memref `M`'s buffer on core `c`: its contents, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole buffer stored whole holds what was stored; loaded whole it reads as it is. -/
theorem writes_whole {κ : Kind} (b : Ref sig κ) (f : b.ty.Contents (Elt F)) {off : Fin b.ty.shape.rank → ℕ} (inb : ∀ a, off a + b.ty.shape.size a ≤ b.ty.shape.size a)
    (w : b.ty.Contents (Elt F)) : (View.whole b).writes (Elt F) f [⟨Rect.unit off b.ty.shape.size inb, w⟩] = w :=
  View.read_writes_full (View.whole b) f inb w []
theorem readAt_whole {κ : Kind} (b : Ref sig κ) (f : b.ty.Contents (Elt F)) {off : Fin b.ty.shape.rank → ℕ} (inb : ∀ a, off a + b.ty.shape.size a ≤ b.ty.shape.size a) :
    View.readAt (Elt F) (View.whole b) (Rect.unit off b.ty.shape.size inb).toLoadRect f = f :=
  View.readAt_full (View.whole b) f inb

/-- The body on the staging buffers. -/
theorem rank_run (c : Dev nD) (i : grid0.Coords) (f0 : Bf (F := F) c (stage0_0 0)) (f1 : Bf (F := F) c (stage0_1 0)) (f2 : Bf (F := F) c (stage0_2 0)) (f3 : Bf (F := F) c (stage0_3 0))
    (f4 : Bf (F := F) c (stage0_4 0)) (Q : PUnit → sProp 𝕄) :
    iprop(pt c (stage0_0 0) f0 ∗ pt c (stage0_1 0) f1 ∗ pt c (stage0_2 0) f2 ∗ pt c (stage0_3 0) f3 ∗ pt c (stage0_4 0) f4
        ∗ (iprop(pt c (stage0_0 0) f0 ∗ pt c (stage0_1 0) f1 ∗ pt c (stage0_2 0) f2 ∗ pt c (stage0_3 0) f3
            ∗ pt c (stage0_4 0) (k0_pay1 (F := F) f0 f1 f2 f3 : S1x64.Idx → Elt F .i32)) -∗ Q ⟨⟩))
      ⊢ wp frame (wpE (defs₀ (F := F)) 𝒱₀ c none) Set.univ
          (cc0__rank_body i (stage0_0 0) (hstage0_0 0) (stage0_1 0) (hstage0_1 0) (stage0_2 0) (hstage0_2 0) (stage0_3 0) (hstage0_3 0) (stage0_4 0) (hstage0_4 0)) Q := by
  iintro ⟨H0, H1, H2, H3, H4, Hk⟩
  rw [cc0__rank_body_eq_skeleton]; unfold cc0__rank_body_skel
  sl_exec!
  sl_step
  iapply Hk
  isplitl [H0]; · iexact H0
  isplitl [H1]; · iexact H1
  isplitl [H2]; · iexact H2
  isplitl [H3]; · iexact H3
  have e : (stage0_4 0).view.writes (Elt F) (stage0_4 0).view.junk (rank_run.sl.H4_1 c f0 f1 f2 f3) = (k0_pay1 (F := F) f0 f1 f2 f3 : S1x64.Idx → Elt F .i32) := by
    unfold rank_run.sl.H4_1
    have h : ∀ a0 a1 a2 a3, a0 = f0 → a1 = f1 → a2 = f2 → a3 = f3 →
        (View.whole cc0_stg4_0).writes (Elt F) (View.whole cc0_stg4_0).junk [⟨Rect.unit ![0, 0] S1x64.size inb_S1x64_S1x64_0_0, (k0_pay1 (F := F) a0 a1 a2 a3 : S1x64.Idx → Elt F .i32)⟩]
          = (k0_pay1 (F := F) f0 f1 f2 f3 : S1x64.Idx → Elt F .i32) := by
      rintro _ _ _ _ rfl rfl rfl rfl
      exact writes_whole cc0_stg4_0 _ inb_S1x64_S1x64_0_0 _
    exact h _ _ _ _ (readAt_whole cc0_stg0_0 f0 inb_S64x128_S64x128_0_0) (readAt_whole cc0_stg1_0 f1 inb_S1x1024_S1x1024_0_0)
      (readAt_whole cc0_stg2_0 f2 inb_S128x1024_S128x1024_0_0) (readAt_whole cc0_stg3_0 f3 inb_S1x128_S1x128_0_0)
  rw [← e]
  iexact H4

/-! ## The region's data, at the arrays it is entered with -/

section Data

variable (c : Dev nD) (V : (b : Ref sig .tc) → Buf (Elt F) ((c : Thread nD τ).loc b))

/-- The operands as the pipeline stages them. -/
abbrev stgd (w : Fin cfg0.W) : ((cfg0.win w).xblock (cfg0.grid.coords t0_0)).Idx → Elt F (cfg0.win w).elt :=
  ((cfg0.win w).blk t0_0).view.read (Elt F) (V (Pipeline.arrRef spec0 w))

/-- The selection the body stores. -/
def picked : S1x64.Idx → Elt F .i32 :=
  k0_pay1 (F := F) (stgd c V (0 : Fin 5)) (stgd c V (1 : Fin 5)) (stgd c V (2 : Fin 5)) (stgd c V (3 : Fin 5))

def dat : Dat τ (Elt F) (HIx 1) ℕ UU ℕ cfg0 c where
  A w := V (Pipeline.arrRef spec0 w)
  after w _ := match w with
    | ⟨0, _⟩ => stgd c V (0 : Fin 5)
    | ⟨1, _⟩ => stgd c V (1 : Fin 5)
    | ⟨2, _⟩ => stgd c V (2 : Fin 5)
    | ⟨3, _⟩ => stgd c V (3 : Fin 5)
    | ⟨4, _⟩ => picked c V
  Φ _ := iprop(emp)
  q _ := fullShare
  owed _ := (K (F := F)).Otc c 0
  recorded _ := {p | (K (F := F)).lev ((c : Thread nD τ), p.1) p.2 ≤ 0}

theorem before_0 (d : (cfg0.win (0 : Fin 5)).block.Idx → Elt F (cfg0.win (0 : Fin 5)).elt) : (dat c V).before (0 : Fin 5) t0_0 d = stgd c V (0 : Fin 5) := by
  unfold Dat.before; rw [if_pos (fetch0_0 _)]; rfl
theorem before_1 (d : (cfg0.win (1 : Fin 5)).block.Idx → Elt F (cfg0.win (1 : Fin 5)).elt) : (dat c V).before (1 : Fin 5) t0_0 d = stgd c V (1 : Fin 5) := by
  unfold Dat.before; rw [if_pos (fetch0_1 _)]; rfl
theorem before_2 (d : (cfg0.win (2 : Fin 5)).block.Idx → Elt F (cfg0.win (2 : Fin 5)).elt) : (dat c V).before (2 : Fin 5) t0_0 d = stgd c V (2 : Fin 5) := by
  unfold Dat.before; rw [if_pos (fetch0_2 _)]; rfl
theorem before_3 (d : (cfg0.win (3 : Fin 5)).block.Idx → Elt F (cfg0.win (3 : Fin 5)).elt) : (dat c V).before (3 : Fin 5) t0_0 d = stgd c V (3 : Fin 5) := by
  unfold Dat.before; rw [if_pos (fetch0_3 _)]; rfl

theorem own_0 (X : ((cfg0.win (0 : Fin 5)).block).Idx → Elt F (cfg0.win (0 : Fin 5)).elt) :
    (owns (c : Thread nD τ) (stage0_0 (cfg0.slots t0_0 (0 : Fin 5))) fullShare X : sProp 𝕄)
      = iprop(∃ f : Bf c (stage0_0 0), ⌜f = X⌝ ∗ pt c (stage0_0 0) f) := owns_whole_eq (c : Thread nD τ) cc0_stg0_0 fullShare X
theorem own_1 (X : ((cfg0.win (1 : Fin 5)).block).Idx → Elt F (cfg0.win (1 : Fin 5)).elt) :
    (owns (c : Thread nD τ) (stage0_1 (cfg0.slots t0_0 (1 : Fin 5))) fullShare X : sProp 𝕄)
      = iprop(∃ f : Bf c (stage0_1 0), ⌜f = X⌝ ∗ pt c (stage0_1 0) f) := owns_whole_eq (c : Thread nD τ) cc0_stg1_0 fullShare X
theorem own_2 (X : ((cfg0.win (2 : Fin 5)).block).Idx → Elt F (cfg0.win (2 : Fin 5)).elt) :
    (owns (c : Thread nD τ) (stage0_2 (cfg0.slots t0_0 (2 : Fin 5))) fullShare X : sProp 𝕄)
      = iprop(∃ f : Bf c (stage0_2 0), ⌜f = X⌝ ∗ pt c (stage0_2 0) f) := owns_whole_eq (c : Thread nD τ) cc0_stg2_0 fullShare X
theorem own_3 (X : ((cfg0.win (3 : Fin 5)).block).Idx → Elt F (cfg0.win (3 : Fin 5)).elt) :
    (owns (c : Thread nD τ) (stage0_3 (cfg0.slots t0_0 (3 : Fin 5))) fullShare X : sProp 𝕄)
      = iprop(∃ f : Bf c (stage0_3 0), ⌜f = X⌝ ∗ pt c (stage0_3 0) f) := owns_whole_eq (c : Thread nD τ) cc0_stg3_0 fullShare X
theorem own_4 (X : ((cfg0.win (4 : Fin 5)).block).Idx → Elt F (cfg0.win (4 : Fin 5)).elt) :
    (owns (c : Thread nD τ) (stage0_4 (cfg0.slots t0_0 (4 : Fin 5))) fullShare X : sProp 𝕄)
      = iprop(∃ f : Bf c (stage0_4 0), ⌜f = X⌝ ∗ pt c (stage0_4 0) f) := owns_whole_eq (c : Thread nD τ) cc0_stg4_0 fullShare X

theorem body_obligation : Pipeline.BodyObligation (dat c V) (defs₀ (F := F)) 𝒱₀ none Set.univ := fun t => by
  obtain rfl := fin_N0 t
  rw [bigSep_W0, bigSep_W0]
  rw [show (dat c V).Φ t0_0.castSucc = iprop(emp) from rfl, show (dat c V).Φ t0_0.succ = iprop(emp) from rfl,
    show (dat c V).owesAt none t0_0.succ = (dat c V).owesAt none t0_0.castSucc from rfl]
  simp only [own_0, own_1, own_2, own_3, own_4]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before_0] at hf0; rw [before_1] at hf1; rw [before_2] at hf2; rw [before_3] at hf3
  subst hf0 hf1 hf2 hf3
  iapply (rank_run c (grid0.coords t0_0) (stgd c V (0 : Fin 5)) (stgd c V (1 : Fin 5)) (stgd c V (2 : Fin 5)) (stgd c V (3 : Fin 5)) f4 _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro; rfl

/-- What the selection's array holds after the region. -/
theorem arrAt_out : (dat c V).arrAt (4 : Fin 5) cfg0.N = picked c V := by
  have ho : ((cfg0.win (4 : Fin 5)).blk t0_0).view.read (Elt F) ((dat c V).arrAt (4 : Fin 5) cfg0.N) = picked c V := by
    rw [show cfg0.N = (t0_0 : Fin cfg0.N).val + 1 from N_0, (dat c V).arrAt_succ (4 : Fin 5) t0_0, if_pos (flush0_4 _)]
    exact View.read_write_univ _ _
  have hz : (fun a => (win0_4.index t0_0) a * main_v1.ty.shape.size a) = fun _ => 0 := funext fun a => by fin_cases a <;> decide
  have hr := fun f => Memref.read_access_unit_zero (Elt F) main_v1 hz (fun a => by fin_cases a <;> decide) f
  exact (hr _).symm.trans ho

end Data

end Cert.Proof.Sc

end
-- ==== Proof.Region.lean ====
/-
  The first call as a region of @main: entered from its five arrays and what the TensorCore owes the second call, left with
  the same and the selection's array rewritten.
-/
module

public import proofs.«01_k».proof.Proof.Rank

@[expose] public section

noncomputable section

namespace Cert.Proof.Sc

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat)

variable {F : FTy → Type} [FloatOps F]

local notation "𝕄" => MT nD τ sig (HIx 1) (Elt F) ℕ UU ℕ

abbrev adm : (p : Fin 1) → (pcfgs (F := F) p).Adm := fun p => (cfgs p).toPCfg_adm

variable (V : (c : Dev nD) → (b : Ref sig .tc) → Buf (Elt F) ((c : Thread nD τ).loc b))

def pdats (p : Fin 1) (c : Dev nD) : Dat τ (Elt F) (HIx 1) ℕ UU ℕ (Pipeline.pin (pcfgs (F := F)) adm p) c :=
  match p with
  | ⟨0, _⟩ => dat c (V c)

/-- What the TensorCore owes, its recorded waits bounded. -/
abbrev Owed (c : Dev nD) : sProp 𝕄 :=
  iprop(∃ W, ⌜(K (F := F)).WBelow (T c) W 0⌝ ∗ owes (T c) ((K (F := F)).Otc c 0) W)

/-- The five arrays at given contents. -/
def five (c : Dev nD) (G : (w : Fin 5) → Buf (Elt F) ((c : Thread nD τ).loc (Pipeline.arrRef spec0 w))) : sProp 𝕄 :=
  iprop(((c : Thread nD τ).loc main_arg0 ↦{fullShare} G 0) ∗ ((c : Thread nD τ).loc main_arg1 ↦{fullShare} G 1)
    ∗ ((c : Thread nD τ).loc main_arg2 ↦{fullShare} G 2) ∗ ((c : Thread nD τ).loc main_v0 ↦{fullShare} G 3)
    ∗ ((c : Thread nD τ).loc main_v1 ↦{fullShare} G 4))

theorem arrays_five (c : Dev nD) (G : (w : Fin 5) → Buf (Elt F) ((c : Thread nD τ).loc (Pipeline.arrRef spec0 w))) :
    (pdats V 0 c).arrays G = five c G := by
  rw [Pipeline.arrays_eq (Pipeline.pin (pcfgs (F := F)) adm) (pdats V) 0 c arr_whole0 ((pdats V 0 c).share_full fun _ => rfl) G]
  exact bigSep_W0 _

set_option backward.isDefEq.respectTransparency.types false in
def reg : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation c (V c)).loose
  hwaits c := Pipeline.cellsWaits_of_cut (Pipeline.pin (pcfgs (F := F)) adm) (pdats V) none 0 c 0 ((K (F := F)).Otc c 0) (fun _ => rfl)
    (fun _ _ => Finset.mem_univ _) (fun _ _ => le_refl 0)
    (fun g i h => ⟨Finset.mem_univ _, lt_of_lt_of_le (Nat.succ_pos _) ((K (F := F)).lev_of_Otc_pos h)⟩)
  pre c := iprop(five c (fun w => V c (Pipeline.arrRef spec0 w)) ∗ Owed c)
  post c := iprop(five c (fun w => (pdats V 0 c).arrAt w cfg0.N) ∗ Owed c)
  X _ := BI.emp
  Y _ := BI.emp
  Z _ := BI.emp
  hentry c := by
    rw [Pipeline.ownSems0_none, Pipeline.prefHeld_of_none _ rfl, arrays_five]
    iintro ⟨⟨Ha, HO⟩, -, -⟩
    imodintro
    isplitl [Ha]; · iexact Ha
    isplitr; · iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iempintro
  hin c := by
    rw [show (pdats V 0 c).Φ 0 = iprop(emp) from rfl]
    iintro -; iempintro
  hout c := by
    rw [Pipeline.ownSems0_none, show (pdats V 0 c).Φ (Fin.last _) = iprop(emp) from rfl]
    iintro -
    isplitr; · iempintro
    isplitr; · iempintro
    rw [show Pipeline.scopedRest (pcfgs (F := F) 0).spec c = (BI.emp : sProp 𝕄) from scopedRest0_eq c]
    iempintro
  hexit c := by
    rw [arrays_five]
    iintro ⟨Ha, HO, -, -⟩
    imodintro
    isplitl [Ha]; · iexact Ha
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

/-- The region's call as the kernel's own table has it. -/
abbrev entry0 : Prog (TpuEff nD τ sig (Elt F) (ΛP (F := F)) .tc) PUnit := .op (.customCall (Pipeline.entry (0 : Fin 1)) ()) fun x => .ret x

/-- The region's call: the arrays and the debt in, the same and the selection out. -/
theorem region₀ [∀ e, Nonempty (Elt F e)] (c : Dev nD) (Q : PUnit → sProp 𝕄) :
    iprop((iprop(boundary (c : Thread nD τ) ∗ five c (fun w => (pdats V 0 c).arrAt w cfg0.N) ∗ Owed c) -∗ Q ⟨⟩)
        ∗ boundary (c : Thread nD τ) ∗ (five c (fun w => V c (Pipeline.arrRef spec0 w)) ∗ Owed c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c : Thread nD τ) none) Set.univ entry0 Q := by
  have h := Pipeline.RegionSeg.wp (pcfgs (F := F)) adm (pdats V) none cellOf_inj EP defs₀ 𝒱₀ (K (F := F)).L (K (F := F)).lev (reg V) c none
    (fun u hu => nomatch hu) (fun x => .ret x) Q
  refine (show (_ : sProp 𝕄) ⊢ _ from ?_).trans h
  iintro ⟨Hk, H⟩
  isplitl [Hk]
  · iintro H; rw [wp_ret]; imodintro; iapply Hk; iexact H
  iexact H

/-- The same in the table the SparseCore call extends. -/
theorem region [∀ e, Nonempty (Elt F e)] (c : Dev nD) (Q : PUnit → sProp 𝕄) :
    iprop((iprop(boundary (c : Thread nD τ) ∗ five c (fun w => (pdats V 0 c).arrAt w cfg0.N) ∗ Owed c) -∗ Q ⟨⟩)
        ∗ boundary (c : Thread nD τ) ∗ (five c (fun w => V c (Pipeline.arrRef spec0 w)) ∗ Owed c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (c : Thread nD τ) none) Set.univ
          (SparseCore.liftProg (entry0 (F := F))) Q :=
  (region₀ V c Q).trans ((K (F := F)).wp_liftProg D 𝒱 (c : Thread nD τ) Set.univ none entry0 Q)

/-- The arrays after the region: the operands as they were, the selection's at what the body stored. -/
theorem five_post (c : Dev nD) : five c (fun w => (pdats V 0 c).arrAt w cfg0.N)
    = iprop(((c : Thread nD τ).loc main_arg0 ↦{fullShare} V c main_arg0) ∗ ((c : Thread nD τ).loc main_arg1 ↦{fullShare} V c main_arg1)
      ∗ ((c : Thread nD τ).loc main_arg2 ↦{fullShare} V c main_arg2) ∗ ((c : Thread nD τ).loc main_v0 ↦{fullShare} V c main_v0)
      ∗ ((c : Thread nD τ).loc main_v1 ↦{fullShare} (picked c (V c) : Buf (Elt F) ((c : Thread nD τ).loc main_v1)))) := by
  unfold five
  dsimp only
  rw [show (pdats V 0 c).arrAt (0 : Fin 5) cfg0.N = V c main_arg0 from (dat c (V c)).arrAt_in (0 : Fin 5) rfl _,
    show (pdats V 0 c).arrAt (1 : Fin 5) cfg0.N = V c main_arg1 from (dat c (V c)).arrAt_in (1 : Fin 5) rfl _,
    show (pdats V 0 c).arrAt (2 : Fin 5) cfg0.N = V c main_arg2 from (dat c (V c)).arrAt_in (2 : Fin 5) rfl _,
    show (pdats V 0 c).arrAt (3 : Fin 5) cfg0.N = V c main_v0 from (dat c (V c)).arrAt_in (3 : Fin 5) rfl _,
    show (pdats V 0 c).arrAt (4 : Fin 5) cfg0.N = picked c (V c) from arrAt_out c (V c)]

end Cert.Proof.Sc

end
-- ==== Proof.Rows.lean ====
/-
  The rows the gather moves: a row of the nodes as a view of the nodes, a row of the result as a view of the result, the
  elements each covers, and what a landed copy leaves in the result's row.
-/
module

public import proofs.«01_k».proof.Proof.Common

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

/-- The row of the nodes at `off`, and the row of the result at `off`, each as a vector of 128. -/
abbrev nRow (off : Fin 2 → ℕ) (h : ∀ a, off a + S1x128.size a ≤ S32768x128.size a) : Memref sig .scScalar .hbm S128 .f32 :=
  (nM.slice (Rect.unit (s := S32768x128) off S1x128.size h) (fun _ => rfl)).squeeze S128 squeezes_S1x128_S128
abbrev oRow (off : Fin 2 → ℕ) (h : ∀ a, off a + S1x128.size a ≤ S64x128.size a) : Memref sig .scScalar .hbm S128 .f32 :=
  (oM.slice (Rect.unit (s := S64x128) off S1x128.size h) (fun _ => rfl)).squeeze S128 squeezes_S1x128_S128

theorem unit_row (hn : (⟨1, ![128]⟩ : Shape).numel = (⟨2, Matrix.vecCons 1 ![128]⟩ : Shape).numel) (x : S128.Idx) :
    ((Shape.reshapeEquiv hn x : S1x128.Idx) 0).val = 0 ∧ ((Shape.reshapeEquiv hn x : S1x128.Idx) 1).val = (x 0).val := by
  rw [Shape.reshapeEquiv_cons_one hn x]
  exact ⟨rfl, rfl⟩

theorem row_numel : (⟨1, ![128]⟩ : Shape).numel = (⟨2, Matrix.vecCons 1 ![128]⟩ : Shape).numel := by decide

/-- A coordinate of an element of a row: the row's number, then the position along it. -/
theorem nRow_emb (off : Fin 2 → ℕ) (h) (a : ℕ) (ho : off = ![a, 0]) (x : S128.Idx) :
    (((nRow off h).view.emb x : S32768x128.Idx) 0).val = a ∧ (((nRow off h).view.emb x : S32768x128.Idx) 1).val = (x 0).val := by
  subst ho
  constructor
  · show (((Rect.unit (s := S32768x128) ![a, 0] S1x128.size h).emb (Shape.reshapeEquiv row_numel x)) 0 : ℕ) = a
    rw [Rect.emb_apply]
    show a + 1 * ((Shape.reshapeEquiv row_numel x : S1x128.Idx) 0).val = a
    rw [(unit_row row_numel x).1, Nat.mul_zero, Nat.add_zero]
  · show (((Rect.unit (s := S32768x128) ![a, 0] S1x128.size h).emb (Shape.reshapeEquiv row_numel x)) 1 : ℕ) = (x 0).val
    rw [Rect.emb_apply]
    show 0 + 1 * ((Shape.reshapeEquiv row_numel x : S1x128.Idx) 1).val = (x 0).val
    rw [(unit_row row_numel x).2]; omega
theorem oRow_emb (off : Fin 2 → ℕ) (h) (a : ℕ) (ho : off = ![a, 0]) (x : S128.Idx) :
    (((oRow off h).view.emb x : S64x128.Idx) 0).val = a ∧ (((oRow off h).view.emb x : S64x128.Idx) 1).val = (x 0).val := by
  subst ho
  constructor
  · show (((Rect.unit (s := S64x128) ![a, 0] S1x128.size h).emb (Shape.reshapeEquiv row_numel x)) 0 : ℕ) = a
    rw [Rect.emb_apply]
    show a + 1 * ((Shape.reshapeEquiv row_numel x : S1x128.Idx) 0).val = a
    rw [(unit_row row_numel x).1, Nat.mul_zero, Nat.add_zero]
  · show (((Rect.unit (s := S64x128) ![a, 0] S1x128.size h).emb (Shape.reshapeEquiv row_numel x)) 1 : ℕ) = (x 0).val
    rw [Rect.emb_apply]
    show 0 + 1 * ((Shape.reshapeEquiv row_numel x : S1x128.Idx) 1).val = (x 0).val
    rw [(unit_row row_numel x).2]; omega

variable (d : Dev nD)

/-- The elements of row `a`. -/
def nSet (a : ℕ) : Finset (Idx (nLoc d)) := Finset.univ.filter fun i : S32768x128.Idx => (i 0).val = a
def oSet (a : ℕ) : Finset (Idx (oLoc d)) := Finset.univ.filter fun i : S64x128.Idx => (i 0).val = a

theorem nRow_set (off : Fin 2 → ℕ) (h) (a : ℕ) (ho : off = ![a, 0]) : (nRow off h).view.set = nSet d a := by
  ext i
  unfold nSet
  rw [Finset.mem_filter]
  constructor
  · intro hi
    obtain ⟨x, -, rfl⟩ := Finset.mem_map.mp hi
    exact ⟨Finset.mem_univ _, (nRow_emb off h a ho x).1⟩
  · rintro ⟨-, hi⟩
    have e : (nRow off h).view.emb (ValueIdx.ix1 (((i : S32768x128.Idx) 1 : Fin 128))) = i := by
      have hx := nRow_emb off h a ho (ValueIdx.ix1 (((i : S32768x128.Idx) 1 : Fin 128)))
      funext b
      match b with
      | ⟨0, _⟩ => exact Fin.ext (hx.1.trans hi.symm)
      | ⟨1, _⟩ => exact Fin.ext hx.2
    rw [← e]; exact View.emb_mem_set _ _
theorem oRow_set (off : Fin 2 → ℕ) (h) (a : ℕ) (ho : off = ![a, 0]) : (oRow off h).view.set = oSet d a := by
  ext i
  unfold oSet
  rw [Finset.mem_filter]
  constructor
  · intro hi
    obtain ⟨x, -, rfl⟩ := Finset.mem_map.mp hi
    exact ⟨Finset.mem_univ _, (oRow_emb off h a ho x).1⟩
  · rintro ⟨-, hi⟩
    have e : (oRow off h).view.emb (ValueIdx.ix1 (((i : S64x128.Idx) 1 : Fin 128))) = i := by
      have hx := oRow_emb off h a ho (ValueIdx.ix1 (((i : S64x128.Idx) 1 : Fin 128)))
      funext b
      match b with
      | ⟨0, _⟩ => exact Fin.ext (hx.1.trans hi.symm)
      | ⟨1, _⟩ => exact Fin.ext hx.2
    rw [← e]; exact View.emb_mem_set _ _

/-- The index of the word of the selection at `r`, and its word. -/
abbrev sIx (r : ℕ) (h : r < 64) : S1x64.Idx := ValueIdx.ix2 (0 : Fin 1) (⟨r, h⟩ : Fin 64)

/-- A row number read off a word, held to the table: the word itself wherever the words are in range. -/
def rowOf (v : BitVec 32) : Fin 32768 := ⟨v.toNat % 32768, Nat.mod_lt _ (by decide)⟩
theorem rowOf_val {v : BitVec 32} (h : v.toNat < 32768) : (rowOf v).val = v.toNat := Nat.mod_eq_of_lt h

/-- The gathered rows: row `r` is the node the selection's word `r` names. -/
def Gath (n : Buf (Elt F) (nLoc d)) (s : Buf (Elt F) (sLoc d)) : Buf (Elt F) (oLoc d) :=
  fun i : S64x128.Idx => (n : S32768x128.Idx → Elt F .f32) (ValueIdx.ix2 (rowOf ((s : S1x64.Idx → BitVec 32) (sIx (i 0).val (i 0).isLt))) (i 1))

/-- A landed copy leaves its row of the result as the gathered rows have it. -/
theorem row_lands (n : Buf (Elt F) (nLoc d)) (s : Buf (Elt F) (sLoc d)) (fo : Buf (Elt F) (oLoc d))
    (noff ooff : Fin 2 → ℕ) (hn ho) (j : ℕ) (hj : j < 64)
    (hs : ((s : S1x64.Idx → BitVec 32) (sIx j hj)).toNat < 32768)
    (en : noff = ![((s : S1x64.Idx → BitVec 32) (sIx j hj)).toNat, 0]) (eo : ooff = ![j, 0]) :
    ∀ i ∈ oSet d j, (oRow ooff ho).view.write (Elt F) fo ((nRow noff hn).view.read (Elt F) n) Finset.univ i = Gath d n s i := by
  intro i hi
  rw [← oRow_set d ooff ho j eo] at hi
  obtain ⟨x, -, rfl⟩ := Finset.mem_map.mp hi
  rw [View.write_emb_of_mem _ _ (Finset.mem_univ x), View.read_apply]
  have hx := oRow_emb ooff ho j eo x
  have hy := nRow_emb noff hn _ en x
  show (n : S32768x128.Idx → Elt F .f32) ((nRow noff hn).view.emb x) = _
  unfold Gath
  congr 1
  funext b
  match b with
  | ⟨0, _⟩ =>
    refine Fin.ext (hy.1.trans ?_)
    show _ = (rowOf _).val
    have : sIx (((oRow ooff ho).view.emb x : S64x128.Idx) 0).val (((oRow ooff ho).view.emb x : S64x128.Idx) 0).isLt = sIx j hj := by
      simp only [sIx]; congr 1; exact Fin.ext hx.1
    rw [this, rowOf_val hs]
  | ⟨1, _⟩ => exact Fin.ext (hy.2.trans hx.2.symm)

theorem oSet_disjoint : ∀ t ∈ (Finset.univ : Finset (Fin 64)), ∀ t' ∈ (Finset.univ : Finset (Fin 64)), t ≠ t' → Disjoint (oSet d t.val) (oSet d t'.val) := by
  intro t _ t' _ hne
  rw [Finset.disjoint_left]
  intro i hi hi'
  unfold oSet at hi hi'
  exact hne (Fin.ext ((Finset.mem_filter.mp hi).2.symm.trans (Finset.mem_filter.mp hi').2))
theorem oSet_union : (Finset.univ : Finset (Fin 64)).biUnion (fun t => oSet d t.val) = Finset.univ := by
  ext i
  refine ⟨fun _ => Finset.mem_univ _, fun _ => Finset.mem_biUnion.mpr ⟨(i : S64x128.Idx) 0, Finset.mem_univ _, ?_⟩⟩
  unfold oSet
  exact Finset.mem_filter.mpr ⟨Finset.mem_univ _, rfl⟩

/-- The result whole is its 64 rows. -/
theorem oPts_rows (f : Buf (Elt F) (oLoc d)) :
    (oLoc d ↦{fullShare} f : sProp 𝕄) = bigSep (Finset.univ : Finset (Fin 64)) fun t => oLoc d ↦[oSet d t.val]{fullShare} f := by
  rw [← pointsTo_biUnion _ _ (oSet_disjoint d), oSet_union]

end Cert.Proof.Sc

end
-- ==== Proof.Gather.lean ====
/-
  The SparseCore's call: the sequencer copies the selection into its scalar memory, issues one row copy per word of it on one
  semaphore, waits for all 64, and returns with the result holding the gathered rows.
-/
module

public import proofs.«01_k».proof.Proof.Rows

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] (d : Dev nD) (L : grid1.Coords)
variable (n : Buf (Elt F) (nLoc d)) (s : Buf (Elt F) (sLoc d))

/-- The sequencer's thread. -/
abbrev thr : Thread nD τ := S d (cS L)
/-- Its scalar memory's buffer, and that buffer holding the selection. -/
abbrev iLoc : Loc nD τ sig := (thr d L).loc cc1_scratch0
/-- The selection's word `r`. -/
abbrev sw (r : ℕ) (h : r < 64) : BitVec 32 := (s : S1x64.Idx → BitVec 32) (sIx r h)
def iBuf : Buf (Elt F) (iLoc d L) := fun x : S64.Idx => sw d s (x 0).val (x 0).isLt

/-- One row's credit. -/
abbrev NR : ℕ := (oRow ![0, 0] inb_S64x128_S1x128_0_0).view.dmaCredit
theorem NR_pos : 0 < NR := View.dmaCredit_pos _ (by decide)

/-- A share of the row of the nodes that copy `t` reads, and the row of the result it writes. -/
abbrev nPart (t : Fin 64) : sProp 𝕄 := nLoc d ↦[nSet d (rowOf (sw d s t.val t.isLt)).val]{shareTok fullShare 64 t} n
abbrev oPart (f : Buf (Elt F) (oLoc d)) (t : Fin 64) : sProp 𝕄 := oLoc d ↦[oSet d t.val]{fullShare} f
/-- What copy `t` delivers. -/
def DD (t : Fin 64) : sProp 𝕄 := iprop(oPart d (Gath d n s) t ∗ nPart d n s t)

instance DD_storable (t : Fin 64) : Storable (upEmb : UEmb _ 𝕄) (DD d n s t) := by unfold DD; infer_instance

/-- With `j` copies issued: the selection in scalar memory, the parts of the copies to come, the batch, and a frame. -/
def Iss (fo : Buf (Elt F) (oLoc d)) (R : sProp 𝕄) (j : ℕ) : sProp 𝕄 :=
  iprop((iLoc d L ↦{fullShare} iBuf d L s) ∗ (bigSep (pending (n := 64) j) fun t => iprop(nPart d n s t ∗ oPart d fo t))
    ∗ Batch EC (thr d L) (.dma cc1_scratch1.sem) (none : HIx 1) NR (DD d n s) j 0 ∗ R)

/-- The word a load of scalar memory at `j` reads. -/
theorem iRead (j : ℕ) (hj : j < 64) (h) (x) :
    (iM.access (Rect.unit (s := S64) ![j] S1.size h)).read (Elt F) (iBuf d L s) x = sw d s j hj := by
  rw [View.read_apply]
  show iBuf d L s (((Rect.unit (s := S64) ![j] S1.size h)).emb x) = _
  unfold iBuf
  have hx : ((((Rect.unit (s := S64) ![j] S1.size h)).emb x) 0).val = j := by
    rw [Rect.emb_apply]
    have : (x 0).val < 1 := (x 0).isLt
    show j + 1 * (x 0).val = j
    omega
  show (s : S1x64.Idx → BitVec 32) (sIx _ _) = (s : S1x64.Idx → BitVec 32) (sIx _ _)
  congr 1
  simp only [sIx]; congr 1; exact Fin.ext hx

variable {d L n s}

/-- One copy: the load of its word, the check that the word names a row, the copy issued. -/
theorem issue {fo : Buf (Elt F) (oLoc d)} {R : sProp 𝕄} (hs : ∀ r h, (sw d s r h).toNat < 32768)
    (j : ℕ) (hj : j < 64) {chk : BitVec 32 → Prop} {dec : ∀ v, Decidable (chk v)} {off : BitVec 32 → Fin 2 → ℕ}
    {inb : ∀ v, chk v → ∀ a, off v a + S1x128.size a ≤ S32768x128.size a}
    (hoff : ∀ v, off v = ![v.toNat, 0]) (hchk : ∀ v : BitVec 32, v.toNat < 32768 → chk v)
    {hjr : ∀ a, (![j] : Fin 1 → ℕ) a + S1.size a ≤ S64.size a} {hjo : ∀ a, (![j, 0] : Fin 2 → ℕ) a + S1x128.size a ≤ S64x128.size a}
    {hw : (iM.access (Rect.unit (s := S64) ![j] S1.size hjr)).Loads} {x : (Rect.unit (s := S64) ![j] S1.size hjr).shape.Idx}
    {α : Type} {k : (v : BitVec 32) → PLift (chk v) → Prog (TpuEff nD τ sig (Elt F) Λ₀ (.scScalar (cS L))) α} {Q : α → sProp 𝕄}
    (hk : ∀ v h, Iss d L n s fo R (j + 1) ⊢ wp frame (wpE (defs₀ (F := F)) 𝒱₀ (thr d L) none) Set.univ (k v h) Q) :
    Iss d L n s fo R j ⊢ wp frame (wpE (defs₀ (F := F)) 𝒱₀ (thr d L) none) Set.univ
      (smemLoadElt iM (Rect.unit (s := S64) ![j] S1.size hjr) hw x fun v =>
        .op (.assume (chk v) (dec v)) fun h =>
          .op (.enqueueDma (nRow (off v) (inb v h.down)) (.here (oRow ![j, 0] hjo)) (.dma cc1_scratch1.sem)
            ((View.wordExact_bits rfl).reshape _ _) ((View.wordExact_bits rfl).reshape _ _) ⟨Or.inl rfl, trivial⟩) fun _ => k v h) Q := by
  have hsj := hs j hj
  unfold Iss
  rw [bigSep_pending_step _ j hj]
  iintro ⟨Hi, ⟨⟨Hn, Ho⟩, Hrest⟩, HB, HR⟩
  iapply (show (iLoc d L ↦{fullShare} iBuf d L s) ⊢ _ from
    wp_smemLoadElt 𝒱₀ (thr d L) none Set.univ (m := iM) (r := Rect.unit (s := S64) ![j] S1.size hjr) (hw := hw) (x := x) (S := Finset.univ)
      (q := fullShare) (f := iBuf d L s) (Finset.subset_univ _)) $$ Hi
  iintro Hi
  rw [iRead d L s j hj]
  iapply (wp_assume 𝒱₀ (thr d L) none Set.univ (hchk _ hsj))
  iapply (wp_dmaBatch EC 𝒱₀ (thr d L) none (src := nRow (off (sw d s j hj)) (inb _ (hchk _ hsj))) (dst := oRow ![j, 0] hjo) (via := .same)
    (sm := .dma cc1_scratch1.sem) (D := DD d n s) (j := j) (u := 0) (q := shareTok fullShare 64 ⟨j, hj⟩) (fs := n) (fd := fo)
    (Sd := oSet d j) none NR rfl (oRow_set d _ hjo j rfl).le hj (Nat.zero_le _) ?hD) $$ [Hn Ho HB]
  case hD =>
    unfold DD
    rw [nRow_set d _ _ _ (hoff _)]
    refine sep_mono (Entails.of_eq (pointsTo_congr ?_)) (Entails.of_eq ?_)
    · exact row_lands d n s fo _ _ _ hjo j hj hsj (hoff _) rfl
    · unfold nPart; rw [rowOf_val hsj]
  · rw [nRow_set d _ _ _ (hoff _)]
    isplitl [Hn]
    · unfold nPart; rw [rowOf_val hsj]; iexact Hn
    isplitl [Ho]; · iexact Ho
    iexact HB
  iintro HB
  iapply (hk _ _)
  unfold Iss
  isplitl [Hi]; · iexact Hi
  isplitl [Hrest]; · iexact Hrest
  isplitl [HB]; · iexact HB
  iexact HR

/-- With `j` copies' units consumed: the batch, the waits recorded so far (each at the launch's own index), and a frame. -/
def Wt (d : Dev nD) (L : grid1.Coords) (n : Buf (Elt F) (nLoc d)) (s : Buf (Elt F) (sLoc d)) (O : CellTallies nD τ sig (HIx 1)) (W : Waits sig (HIx 1))
    (R : sProp 𝕄) (j : ℕ) : sProp 𝕄 :=
  iprop(Batch EC (thr d L) (.dma cc1_scratch1.sem) (none : HIx 1) NR (DD d n s) 64 (j * NR) ∗ levAts (K (F := F)).L (K (F := F)).lev
    ∗ (∃ W', ⌜∀ p ∈ W', p ∈ W ∨ p.2 = none⌝ ∗ owes (thr d L) O W') ∗ R)

theorem mem_insert_none {W W' : Waits sig (HIx 1)} (g : SemLoc sig) (h : ∀ p ∈ W', p ∈ W ∨ p.2 = none) :
    ∀ p ∈ insert (g, (none : HIx 1)) W', p ∈ W ∨ p.2 = none := by
  intro p hp
  rcases Finset.mem_insert.mp hp with rfl | hp
  · exact .inr rfl
  · exact h p hp

/-- One wait of a row's credit, not the last. -/
theorem wait {O : CellTallies nD τ sig (HIx 1)} {W : Waits sig (HIx 1)} {R : sProp 𝕄} (hO : ∀ g, O g none = 0) (j : ℕ) (hj : j + 1 < 64)
    {off : Fin 2 → ℕ} {inb : ∀ a, off a + S1x128.size a ≤ S32768x128.size a} {ooff : Fin 2 → ℕ} {hjo : ∀ a, ooff a + S1x128.size a ≤ S64x128.size a}
    {α : Type} {k : PUnit → Prog (TpuEff nD τ sig (Elt F) Λ₀ (.scScalar (cS L))) α} {Q : α → sProp 𝕄}
    (hk : Wt d L n s O W R (j + 1) ⊢ wp frame (wpE (defs₀ (F := F)) 𝒱₀ (thr d L) none) Set.univ (k ⟨⟩) Q) :
    Wt d L n s O W R j ⊢ wp frame (wpE (defs₀ (F := F)) 𝒱₀ (thr d L) none) Set.univ
      (.op (.waitDma2 cc1_scratch1.sem (nRow off inb) (oRow ooff hjo) ((View.wordExact_bits rfl).reshape _ _) ((View.wordExact_bits rfl).reshape _ _)) k) Q := by
  have hu : j * NR + NR < NR * 64 := by
    have := NR_pos
    rw [← Nat.succ_mul, Nat.mul_comm]; exact Nat.mul_lt_mul_of_pos_left hj this
  unfold Wt
  iintro ⟨HB, #Hlv, ⟨%W', %hW', HO⟩, HR⟩
  iapply (wp_waitBatchO EC 𝒱₀ (thr d L) none (srcw := nRow off inb) (dstw := oRow ooff hjo) (none : HIx 1) (N := NR) rfl (D := DD d n s) (u := j * NR) hu (O := O) (W := W')) $$ [HB HO]
  · isplitl [HB]; · iexact HB
    isplitl [HO]; · iexact HO
    iapply ((K (F := F)).mayWait_none (SemLoc.dma cc1_scratch1.sem) hO); iexact Hlv
  iintro ⟨HB, HO⟩
  iapply hk
  unfold Wt
  rw [Nat.succ_mul]
  isplitl [HB]; · iexact HB
  isplitr; · iexact Hlv
  isplitl [HO]
  · iexists (insert (SemLoc.dma cc1_scratch1.sem, (none : HIx 1)) W'); isplitr
    · ipureintro; exact mem_insert_none _ hW'
    · iexact HO
  iexact HR

/-- After the last wait: every copy's delivery, and the semaphore at zero. -/
def Dn (d : Dev nD) (L : grid1.Coords) (n : Buf (Elt F) (nLoc d)) (s : Buf (Elt F) (sLoc d)) (O : CellTallies nD τ sig (HIx 1)) (W : Waits sig (HIx 1))
    (R : sProp 𝕄) : sProp 𝕄 :=
  iprop(bigSep Finset.univ (DD d n s) ∗ semVal (thr d L, .dma cc1_scratch1.sem) 0
    ∗ (∃ W', ⌜∀ p ∈ W', p ∈ W ∨ p.2 = none⌝ ∗ owes (thr d L) O W') ∗ R)

theorem waitLast {O : CellTallies nD τ sig (HIx 1)} {W : Waits sig (HIx 1)} {R : sProp 𝕄} (hO : ∀ g, O g none = 0)
    {off : Fin 2 → ℕ} {inb : ∀ a, off a + S1x128.size a ≤ S32768x128.size a} {ooff : Fin 2 → ℕ} {hjo : ∀ a, ooff a + S1x128.size a ≤ S64x128.size a}
    {α : Type} {k : PUnit → Prog (TpuEff nD τ sig (Elt F) Λ₀ (.scScalar (cS L))) α} {Q : α → sProp 𝕄}
    (hk : Dn d L n s O W R ⊢ wp frame (wpE (defs₀ (F := F)) 𝒱₀ (thr d L) none) Set.univ (k ⟨⟩) Q) :
    Wt d L n s O W R 63 ⊢ wp frame (wpE (defs₀ (F := F)) 𝒱₀ (thr d L) none) Set.univ
      (.op (.waitDma2 cc1_scratch1.sem (nRow off inb) (oRow ooff hjo) ((View.wordExact_bits rfl).reshape _ _) ((View.wordExact_bits rfl).reshape _ _)) k) Q := by
  have hu : 63 * NR + NR = NR * 64 := by rw [← Nat.succ_mul, Nat.mul_comm]
  unfold Wt
  iintro ⟨HB, #Hlv, ⟨%W', %hW', HO⟩, HR⟩
  iapply (wp_waitBatchLastO EC 𝒱₀ (thr d L) none (srcw := nRow off inb) (dstw := oRow ooff hjo) (none : HIx 1) (N := NR) rfl NR_pos (D := DD d n s) (u := 63 * NR) hu (O := O) (W := W')) $$ [HB HO]
  · isplitl [HB]; · iexact HB
    isplitl [HO]; · iexact HO
    iapply ((K (F := F)).mayWait_none (SemLoc.dma cc1_scratch1.sem) hO); iexact Hlv
  iintro ⟨HD, Hv, HO⟩
  iapply hk
  unfold Dn
  isplitl [HD]; · iexact HD
  isplitl [Hv]; · iexact Hv
  isplitl [HO]
  · iexists (insert (SemLoc.dma cc1_scratch1.sem, (none : HIx 1)) W'); isplitr
    · ipureintro; exact mem_insert_none _ hW'
    · iexact HO
  iexact HR

theorem row_inb {v : BitVec 32} (h : v.toNat < 32768) : ∀ a, (![v.toNat, 0] : Fin 2 → ℕ) a + S1x128.size a ≤ S32768x128.size a := by
  intro a
  match a with
  | ⟨0, _⟩ => show v.toNat + 1 ≤ 32768; omega
  | ⟨1, _⟩ => show 0 + 128 ≤ 128; omega

/-- A part of the body, then the rest. -/
theorem seq {P I : sProp 𝕄} {α β : Type} {p : Prog (TpuEff nD τ sig (Elt F) Λ₀ (.scScalar (cS L))) α}
    {k : α → Prog (TpuEff nD τ sig (Elt F) Λ₀ (.scScalar (cS L))) β} {Q : β → sProp 𝕄}
    (hp : P ⊢ wp frame (wpE (defs₀ (F := F)) 𝒱₀ (thr d L) none) Set.univ p fun _ => I)
    (hk : ∀ a, I ⊢ wp frame (wpE (defs₀ (F := F)) 𝒱₀ (thr d L) none) Set.univ (k a) Q) :
    P ⊢ wp frame (wpE (defs₀ (F := F)) 𝒱₀ (thr d L) none) Set.univ (p >>= k) Q := by
  rw [wp_bind]
  exact hp.trans (wp_mono frame _ _ hk)

theorem ret_of {I : sProp 𝕄} {α : Type} {a : α} :
    I ⊢ wp frame (wpE (defs₀ (F := F)) 𝒱₀ (thr d L) none) Set.univ (.ret a : Prog (TpuEff nD τ sig (Elt F) Λ₀ (.scScalar (cS L))) α) fun _ => I := by
  rw [wp_ret]; exact fupd_intro

theorem chk_both {v : BitVec 32} (h : v.toNat < 32768) :
    (∀ a, (![v.toNat, 0] : Fin 2 → ℕ) a + S1x128.size a ≤ S32768x128.size a) ∧ (∀ a, (![v.toNat, 0] : Fin 2 → ℕ) a + S1x128.size a ≤ S32768x128.size a) :=
  ⟨row_inb h, row_inb h⟩

/-- The selection as the first copy reads it. -/
abbrev sRow : Memref sig .scScalar .hbm S64 .i32 :=
  (sM.slice (Rect.unit (s := S1x64) ![0, 0] S1x64.size inb_S1x64_S1x64_0_0) (fun _ => rfl)).squeeze S64 squeezes_S1x64_S64

theorem sel_numel : (⟨1, ![64]⟩ : Shape).numel = (⟨2, Matrix.vecCons 1 ![64]⟩ : Shape).numel := by decide

theorem sRow_emb (x : S64.Idx) : (sRow.view.emb x : S1x64.Idx) = sIx (x 0).val (x 0).isLt := by
  show (Rect.unit (s := S1x64) ![0, 0] S1x64.size inb_S1x64_S1x64_0_0).emb (Shape.reshapeEquiv sel_numel x) = _
  rw [Shape.reshapeEquiv_cons_one sel_numel x]
  funext b
  match b with
  | ⟨0, _⟩ => exact Fin.ext rfl
  | ⟨1, _⟩ =>
    refine Fin.ext ?_
    show 0 + 1 * (x 0).val = (x 0).val
    omega

theorem sRow_set : sRow.view.set = Finset.univ := by
  ext i
  refine ⟨fun _ => Finset.mem_univ _, fun _ => ?_⟩
  have e : (sRow.view.emb (ValueIdx.ix1 ((i : S1x64.Idx) 1 : Fin 64)) : S1x64.Idx) = i := by
    rw [sRow_emb]
    funext b
    match b with
    | ⟨0, _⟩ => exact Fin.ext (by have : ((i : S1x64.Idx) 0).val < 1 := ((i : S1x64.Idx) 0).isLt; show 0 = ((i : S1x64.Idx) 0).val; omega)
    | ⟨1, _⟩ => rfl
  exact (congrArg (· ∈ sRow.view.set) e).mp (View.emb_mem_set _ _)

theorem sRow_read : sRow.view.read (Elt F) s = iBuf d L s := by
  funext x
  rw [View.read_apply]
  show (s : S1x64.Idx → BitVec 32) (sRow.view.emb x) = _
  rw [sRow_emb]; rfl

abbrev NI : ℕ := (iM : Memref sig .scScalar .smem S64 .i32).view.dmaCredit
theorem NI_pos : 0 < NI := View.dmaCredit_pos _ (by decide)

/-- What the waits keep: the levels, and the core's dues with the waits recorded so far. -/
abbrev Due (d : Dev nD) (L : grid1.Coords) (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d L) O W')

/-- What is carried through the copies, and through their waits. -/
abbrev Keep (d : Dev nD) (L : grid1.Coords) (s : Buf (Elt F) (sLoc d)) (R : sProp 𝕄) : sProp 𝕄 :=
  iprop((sLoc d ↦{fullShare} s) ∗ semVal (thr d L, .dma cc1_scoped0.sem) 0 ∗ R)
abbrev Keep' (d : Dev nD) (L : grid1.Coords) (s : Buf (Elt F) (sLoc d)) (R : sProp 𝕄) : sProp 𝕄 :=
  iprop((iLoc d L ↦{fullShare} iBuf d L s) ∗ Keep d L s R)

/-- The first copy and its wait: the selection in scalar memory. -/
theorem fetch {fo : Buf (Elt F) (oLoc d)} {fi : Buf (Elt F) (iLoc d L)} {R : sProp 𝕄} {O : CellTallies nD τ sig (HIx 1)} {W : Waits sig (HIx 1)}
    (hO : ∀ g, O g none = 0) {α : Type} {k : PUnit → Prog (TpuEff nD τ sig (Elt F) Λ₀ (.scScalar (cS L))) α} {Q : α → sProp 𝕄}
    (hk : Iss d L n s fo iprop(Due d L O W ∗ Keep d L s R) 0
      ⊢ wp frame (wpE (defs₀ (F := F)) 𝒱₀ (thr d L) none) Set.univ (k ⟨⟩) Q) :
    iprop(levAts (K (F := F)).L (K (F := F)).lev ∗ owes (thr d L) O W ∗ (sLoc d ↦{fullShare} s) ∗ (iLoc d L ↦{fullShare} fi)
        ∗ semVal (thr d L, .dma cc1_scoped0.sem) 0 ∗ (bigSep (pending (n := 64) 0) fun t => iprop(nPart d n s t ∗ oPart d fo t))
        ∗ Batch EC (thr d L) (.dma cc1_scratch1.sem) (none : HIx 1) NR (DD d n s) 0 0 ∗ R)
      ⊢ wp frame (wpE (defs₀ (F := F)) 𝒱₀ (thr d L) none) Set.univ
        (.op (.enqueueDma sRow (.here iM) (.dma cc1_scoped0.sem) ((View.wordExact_bits rfl).reshape _ _) (Memref.isWhole_whole _).wordExact ⟨Or.inl rfl, trivial⟩) fun _ =>
          .op (.waitDma2 cc1_scoped0.sem sRow iM ((View.wordExact_bits rfl).reshape _ _) (Memref.isWhole_whole _).wordExact) k) Q := by
  iintro ⟨#Hlv, HO, Hs, Hi, Hv, Hpend, HB, HR⟩
  iapply (wp_dmaLocal EC 𝒱₀ (thr d L) none (src := sRow) (dst := iM) (via := .same) (sm := .dma cc1_scoped0.sem) (q := fullShare) (fs := s) (fd := fi)
    (Sd := Finset.univ) (none : HIx 1) NI rfl NI_pos (Finset.subset_univ _)) $$ [Hs Hi Hv]
  · rw [sRow_set]
    isplitl [Hs]; · iexact Hs
    isplitl [Hi]; · iexact Hi
    iexact Hv
  iintro HF
  iapply (wp_waitLocalO EC 𝒱₀ (thr d L) none (srcw := sRow) (dstw := iM) (none : HIx 1) (N := NI) rfl (O := O) (W := W)) $$ [HF HO]
  · isplitl [HF]; · iexact HF
    isplitl [HO]; · iexact HO
    iapply ((K (F := F)).mayWait_none (SemLoc.dma cc1_scoped0.sem) hO); iexact Hlv
  iintro ⟨⟨Hi, Hs⟩, Hv, HO⟩
  rw [sRow_set]
  iapply hk
  unfold Iss
  isplitl [Hi]
  · iapply (Entails.of_eq (pointsTo_congr (fun i _ => congrFun ((View.write_whole_univ _ _ _).trans (sRow_read (L := L))) i))) $$ Hi
  isplitl [Hpend]; · iexact Hpend
  isplitl [HB]; · iexact HB
  isplitl [HO]
  · isplitr; · iexact Hlv
    iexists (insert (SemLoc.dma cc1_scoped0.sem, (none : HIx 1)) W); isplitr
    · ipureintro; exact mem_insert_none _ fun p hp => .inl hp
    · iexact HO
  isplitl [Hs]; · iexact Hs
  isplitl [Hv]; · iexact Hv
  iexact HR

/-- Everything issued, nothing waited for. -/
theorem issued_all' {fo : Buf (Elt F) (oLoc d)} {R : sProp 𝕄} {O : CellTallies nD τ sig (HIx 1)} {W : Waits sig (HIx 1)} :
    Iss d L n s fo iprop(Due d L O W ∗ R) 64 ⊢ Wt d L n s O W iprop((iLoc d L ↦{fullShare} iBuf d L s) ∗ R) 0 := by
  unfold Iss Wt
  iintro ⟨Hi, -, HB, ⟨Hlv, HO⟩, HR⟩
  rw [Nat.zero_mul]
  isplitl [HB]; · iexact HB
  isplitl [Hlv]; · iexact Hlv
  isplitl [HO]; · iexact HO
  isplitl [Hi]; · iexact Hi
  iexact HR

/-- The whole body. -/
theorem copies {fo : Buf (Elt F) (oLoc d)} {fi : Buf (Elt F) (iLoc d L)} {R : sProp 𝕄} {O : CellTallies nD τ sig (HIx 1)} {W : Waits sig (HIx 1)}
    (hO : ∀ g, O g none = 0) (hs : ∀ r h, (sw d s r h).toNat < 32768) :
    iprop(levAts (K (F := F)).L (K (F := F)).lev ∗ owes (thr d L) O W ∗ (sLoc d ↦{fullShare} s) ∗ (iLoc d L ↦{fullShare} fi)
        ∗ semVal (thr d L, .dma cc1_scoped0.sem) 0 ∗ (bigSep (pending (n := 64) 0) fun t => iprop(nPart d n s t ∗ oPart d fo t))
        ∗ Batch EC (thr d L) (.dma cc1_scratch1.sem) (none : HIx 1) NR (DD d n s) 0 0 ∗ R)
      ⊢ wp frame (wpE (defs₀ (F := F)) 𝒱₀ (thr d L) none) Set.univ (cc1__sc_gather (F := F) L nM (Memref.isWhole_whole _) sM (Memref.isWhole_whole _) oM (Memref.isWhole_whole _) iM (Memref.isWhole_whole _) cc1_scratch1 cc1_scoped0)
      fun _ => Dn d L n s O W (Keep' d L s R) := by
  rw [cc1__sc_gather_eq_skeleton]; unfold cc1__sc_gather_skel
  refine seq (I := Iss d L n s fo iprop(Due d L O W ∗ Keep d L s R) 4) ?_ fun _ => ?_
  · rw [k1_part1_eq_skeleton]; unfold k1_part1_skel
    simp only [smemLoad, smemLoadElt_bind, Prog.lift, Prog.bind_op, Prog.bind_ret, Prog.pure_eq_ret]
    refine fetch hO ?_
    iterate 4 refine issue hs _ (by decide) (inb := fun _ h => h.1) (fun _ => rfl) (fun _ h => chk_both h) fun _ _ => ?_
    exact ret_of
  refine seq (I := Iss d L n s fo iprop(Due d L O W ∗ Keep d L s R) 9) ?_ fun _ => ?_
  · rw [k1_part2_eq_skeleton]; unfold k1_part2_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 14) ?_ fun _ => ?_
  · rw [k1_part3_eq_skeleton]; unfold k1_part3_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 19) ?_ fun _ => ?_
  · rw [k1_part4_eq_skeleton]; unfold k1_part4_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 24) ?_ fun _ => ?_
  · rw [k1_part5_eq_skeleton]; unfold k1_part5_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 29) ?_ fun _ => ?_
  · rw [k1_part6_eq_skeleton]; unfold k1_part6_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 34) ?_ fun _ => ?_
  · rw [k1_part7_eq_skeleton]; unfold k1_part7_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 39) ?_ fun _ => ?_
  · rw [k1_part8_eq_skeleton]; unfold k1_part8_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 44) ?_ fun _ => ?_
  · rw [k1_part9_eq_skeleton]; unfold k1_part9_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 49) ?_ fun _ => ?_
  · rw [k1_part10_eq_skeleton]; unfold k1_part10_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 54) ?_ fun _ => ?_
  · rw [k1_part11_eq_skeleton]; unfold k1_part11_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 59) ?_ fun _ => ?_
  · rw [k1_part12_eq_skeleton]; unfold k1_part12_skel
    simp only [smemLoad, smemLoadElt_bind, Prog.lift, Prog.bind_op, Prog.bind_ret, Prog.pure_eq_ret]
    iterate 5 refine issue hs _ (by decide) (inb := fun _ h => h.1) (fun _ => rfl) (fun _ h => chk_both h) fun _ _ => ?_
    exact ret_of
  refine seq (I := Iss d L n s fo iprop(Due d L O W ∗ Keep d L s R) 64) ?_ fun _ => ?_
  · rw [k1_part13_eq_skeleton]; unfold k1_part13_skel
    simp only [smemLoad, smemLoadElt_bind, Prog.lift, Prog.bind_op, Prog.bind_ret, Prog.pure_eq_ret]
    iterate 4 refine issue hs _ (by decide) (inb := fun _ h => h.1) (fun _ => rfl) (fun _ h => chk_both h) fun _ _ => ?_
    refine issue hs _ (by decide) (inb := fun _ h => h) (fun _ => rfl) (fun _ h => row_inb h) fun _ _ => ?_
    exact ret_of
  refine issued_all'.trans ?_
  refine seq (I := Wt d L n s O W (Keep' d L s R) 7) ?_ fun _ => ?_
  · rw [k1_part14_eq_skeleton]; unfold k1_part14_skel
    simp only [smemLoad, smemLoadElt_bind, Prog.lift, Prog.bind_op, Prog.bind_ret, Prog.pure_eq_ret]
    iterate 7 refine wait hO _ (by decide) ?_
    exact ret_of
  refine seq (I := Wt d L n s O W (Keep' d L s R) 15) ?_ fun _ => ?_
  · rw [k1_part15_eq_skeleton]; unfold k1_part15_skel
    simp only [smemLoad, smemLoadElt_bind, Prog.lift, Prog.bind_op, Prog.bind_ret, Prog.pure_eq_ret]
    iterate 8 refine wait hO _ (by decide) ?_
    exact ret_of
  refine seq (I := Wt d L n s O W (Keep' d L s R) 22) ?_ fun _ => ?_
  · rw [k1_part16_eq_skeleton]; unfold k1_part16_skel
    simp only [smemLoad, smemLoadElt_bind, Prog.lift, Prog.bind_op, Prog.bind_ret, Prog.pure_eq_ret]
    iterate 7 refine wait hO _ (by decide) ?_
    exact ret_of
  refine seq (I := Wt d L n s O W (Keep' d L s R) 30) ?_ fun _ => ?_
  · rw [k1_part17_eq_skeleton]; unfold k1_part17_skel
    simp only [smemLoad, smemLoadElt_bind, Prog.lift, Prog.bind_op, Prog.bind_ret, Prog.pure_eq_ret]
    iterate 8 refine wait hO _ (by decide) ?_
    exact ret_of
  refine seq (I := Wt d L n s O W (Keep' d L s R) 37) ?_ fun _ => ?_
  · rw [k1_part18_eq_skeleton]; unfold k1_part18_skel
    simp only [smemLoad, smemLoadElt_bind, Prog.lift, Prog.bind_op, Prog.bind_ret, Prog.pure_eq_ret]
    iterate 7 refine wait hO _ (by decide) ?_
    exact ret_of
  refine seq (I := Wt d L n s O W (Keep' d L s R) 45) ?_ fun _ => ?_
  · rw [k1_part19_eq_skeleton]; unfold k1_part19_skel
    simp only [smemLoad, smemLoadElt_bind, Prog.lift, Prog.bind_op, Prog.bind_ret, Prog.pure_eq_ret]
    iterate 8 refine wait hO _ (by decide) ?_
    exact ret_of
  refine seq (I := Wt d L n s O W (Keep' d L s R) 52) ?_ fun _ => ?_
  · rw [k1_part20_eq_skeleton]; unfold k1_part20_skel
    simp only [smemLoad, smemLoadElt_bind, Prog.lift, Prog.bind_op, Prog.bind_ret, Prog.pure_eq_ret]
    iterate 7 refine wait hO _ (by decide) ?_
    exact ret_of
  refine seq (I := Wt d L n s O W (Keep' d L s R) 60) ?_ fun _ => ?_
  · rw [k1_part21_eq_skeleton]; unfold k1_part21_skel
    simp only [smemLoad, smemLoadElt_bind, Prog.lift, Prog.bind_op, Prog.bind_ret, Prog.pure_eq_ret]
    iterate 8 refine wait hO _ (by decide) ?_
    exact ret_of
  simp only [Prog.lift, Prog.bind_op, Prog.bind_ret, Prog.pure_eq_ret]
  iterate 3 refine wait hO _ (by decide) ?_
  refine waitLast hO ?_
  exact ret_of

end Cert.Proof.Sc

end
-- ==== Proof.Sequencer.lean ====
/-
  The SparseCore's call as the launch asks for it: from the nodes, the selection and the result's buffer, with the core's own
  memory and semaphores as the launch hands them over and takes them back.
-/
module

public import proofs.«01_k».proof.Proof.Gather

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

section Parts

variable (d : Dev nD) (n : Buf (Elt F) (nLoc d)) (s : Buf (Elt F) (sLoc d))

/-- The nodes outside one copy's row, at that copy's share. -/
def nOff (t : Fin 64) : sProp 𝕄 := nLoc d ↦[Finset.univ \ nSet d (rowOf (sw d s t.val t.isLt)).val]{shareTok fullShare 64 t} n

/-- What is left of the nodes once each copy has its share of its row. -/
def nRest : sProp 𝕄 := iprop((nLoc d ↦{shareDrop fullShare 64} n) ∗ bigSep (Finset.univ : Finset (Fin 64)) (nOff d n s))

theorem nodes_rows : (bigSep (Finset.univ : Finset (Fin 64)) fun t => (nLoc d ↦{shareTok fullShare 64 t} n : sProp 𝕄))
    = iprop(bigSep (Finset.univ : Finset (Fin 64)) (nPart d n s) ∗ bigSep (Finset.univ : Finset (Fin 64)) (nOff d n s)) := by
  rw [← bigSep_sep']
  have h : ∀ t ∈ (Finset.univ : Finset (Fin 64)), (nLoc d ↦{shareTok fullShare 64 t} n : sProp 𝕄) ⊣⊢ iprop(nPart d n s t ∗ nOff d n s t) := fun t _ =>
    pointsTo_split_subset (Finset.subset_univ (nSet d (rowOf (sw d s t.val t.isLt)).val))
  exact Entails.antisymm (BI.bigSep_mono fun t ht => (h t ht).1) (BI.bigSep_mono fun t ht => (h t ht).2)

theorem nodes_split : (nLoc d ↦{fullShare} n : sProp 𝕄) ⊢ iprop(nRest d n s ∗ bigSep (Finset.univ : Finset (Fin 64)) (nPart d n s)) := by
  unfold nRest
  iintro H
  ihave H' := (pointsTo_toks_split fullShare 64) $$ H
  icases H' with ⟨Hd, Ht⟩
  ihave Ht' := (Entails.of_eq (nodes_rows d n s)) $$ Ht
  icases Ht' with ⟨Hr, Ho⟩
  isplitl [Hd Ho]
  · isplitl [Hd] <;> iassumption
  iexact Hr

theorem nodes_join : iprop(nRest d n s ∗ bigSep (Finset.univ : Finset (Fin 64)) (nPart d n s)) ⊢ (nLoc d ↦{fullShare} n : sProp 𝕄) := by
  unfold nRest
  iintro ⟨⟨Hd, Ho⟩, Hr⟩
  iapply (pointsTo_toks_join fullShare 64)
  isplitl [Hd]; · iexact Hd
  iapply (Entails.of_eq (nodes_rows d n s).symm)
  isplitl [Hr] <;> iassumption

/-- The nodes' parts and the result's rows, told apart again. -/
theorem rows_join : (bigSep (Finset.univ : Finset (Fin 64)) (DD d n s) : sProp 𝕄)
    ⊢ iprop((oLoc d ↦{fullShare} Gath d n s) ∗ bigSep (Finset.univ : Finset (Fin 64)) (nPart d n s)) := by
  rw [oPts_rows, ← bigSep_sep']; exact Entails.rfl

theorem rows_split (fo : Buf (Elt F) (oLoc d)) :
    iprop((bigSep (Finset.univ : Finset (Fin 64)) (nPart d n s)) ∗ (oLoc d ↦{fullShare} fo))
      ⊢ (bigSep (pending (n := 64) 0) fun t => iprop(nPart d n s t ∗ oPart d fo t) : sProp 𝕄) := by
  rw [oPts_rows, pending_zero, bigSep_sep']

end Parts

theorem ownBufs_S (d : Dev nD) (c : Fin τ.nSC) :
    (ownBufs (S d c) : sProp 𝕄)
      = iprop((∃ f, (S d c).loc cc1_scratch0 ↦{fullShare} f)
        ∗ bigSep ((ownRefs (Proc.scScalar c)).erase ((Proc.scScalar c).devRef cc1_scratch0)) fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc1_scratch0) rfl)

abbrev cellA (d : Dev nD) (c : Fin τ.nSC) : GSem nD τ sig := (S d c, .dma cc1_scratch1.sem)
abbrev cellB (d : Dev nD) (c : Fin τ.nSC) : GSem nD τ sig := (S d c, .dma cc1_scoped0.sem)

theorem ownSems0_S (d : Dev nD) (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' (i := cellA d c) ((mem_ownCells (g := cellA d c)).mpr ⟨rfl, by show (SemLoc.dma cc1_scratch1.sem : SemLoc sig).isScoped .scScalar = true; decide⟩),
    SparseCore.bigSep_erase' (i := cellB d c) (Finset.mem_erase.mpr ⟨fun h => absurd (Prod.mk.inj h).2 (by decide),
      (mem_ownCells (g := cellB d c)).mpr ⟨rfl, by show (SemLoc.dma cc1_scoped0.sem : SemLoc sig).isScoped .scScalar = true; decide⟩⟩)]

variable [FloatOps F]

/-- What the body leaves alone. -/
def Aside (d : Dev nD) (L : grid1.Coords) (n : Buf (Elt F) (nLoc d)) (s : Buf (Elt F) (sLoc d)) : sProp 𝕄 :=
  iprop(nRest d n s
    ∗ (bigSep ((ownRefs (Proc.scScalar (cS L))).erase ((Proc.scScalar (cS L)).devRef cc1_scratch0)) fun b => iprop(∃ f, ((d, b) : Loc nD τ sig) ↦{fullShare} f))
    ∗ (bigSep (((ownCells (S d (cS L))).erase (cellA d (cS L))).erase (cellB d (cS L))) fun g => semVal g 0)
    ∗ (bigSep Finset.univ fun i => scopedBufs (V d (cS L) i))
    ∗ bigSep Finset.univ fun i => scopedSems0 (V d (cS L) i))

/-- What the launch takes back. -/
def Back (d : Dev nD) (L : grid1.Coords) (n : Buf (Elt F) (nLoc d)) (s : Buf (Elt F) (sLoc d)) (O : CellTallies nD τ sig (HIx 1)) (W : Waits sig (HIx 1)) : sProp 𝕄 :=
  iprop(((nLoc d ↦{fullShare} n) ∗ (sLoc d ↦{fullShare} s) ∗ (oLoc d ↦{fullShare} Gath d n s))
    ∗ scopedBufs (S d (cS L)) ∗ scopedSems0 (S d (cS L)) ∗ ∃ W', ⌜∀ p ∈ W', p ∈ W ∨ p.2 = none⌝ ∗ owes (S d (cS L)) O W')

variable (d : Dev nD) (L : grid1.Coords) (n : Buf (Elt F) (nLoc d)) (s : Buf (Elt F) (sLoc d))

theorem back (O : CellTallies nD τ sig (HIx 1)) (W : Waits sig (HIx 1)) : Dn d L n s O W (Keep' d L s (Aside d L n s)) ⊢ Back d L n s O W := by
  unfold Dn Keep' Keep Aside Back
  iintro ⟨HD, HA, HO, Hi, Hs, HB, Hnr, Hbufs, Hsems, Hvb, Hvs⟩
  ihave HD' := (rows_join d n s) $$ HD
  icases HD' with ⟨Ho, Hnp⟩
  ihave Hn := (nodes_join d n s) $$ [Hnr Hnp]
  · isplitl [Hnr] <;> iassumption
  isplitl [Hn Hs Ho]
  · isplitl [Hn]; · iexact Hn
    isplitl [Hs] <;> iassumption
  isplitl [Hi Hbufs Hvb]
  · iapply ((K (F := F)).scopedBufs_S_intro facts d (cS L))
    isplitl [Hi Hbufs]
    · iapply (Entails.of_eq (ownBufs_S (F := F) d (cS L)).symm)
      isplitl [Hi]
      · iexists (iBuf d L s); iexact Hi
      iexact Hbufs
    iexact Hvb
  isplitl [HA HB Hsems Hvs]
  · iapply (SparseCore.Cfg.scopedSems0_S_intro (Val := Elt F) d (cS L))
    isplitl [HA HB Hsems]
    · iapply (Entails.of_eq (ownSems0_S (F := F) d (cS L)).symm)
      isplitl [HA]; · iexact HA
      isplitl [HB] <;> iassumption
    iexact Hvs
  iexact HO

/-- The kernel on the sequencer of the call's core. -/
theorem gather (hs : ∀ r h, (sw d s r h).toNat < 32768)
    (O : CellTallies nD τ sig (HIx 1)) (W : Waits sig (HIx 1)) (hO : ∀ g, O g none = 0) (fo : Buf (Elt F) (oLoc d)) :
    iprop(levAts (K (F := F)).L (K (F := F)).lev ∗ ((nLoc d ↦{fullShare} n) ∗ (sLoc d ↦{fullShare} s) ∗ (oLoc d ↦{fullShare} fo))
        ∗ scopedBufs (S d (cS L)) ∗ scopedSems0 (S d (cS L)) ∗ owes (S d (cS L)) O W)
      ⊢ wp frame (wpE (defs₀ (F := F)) 𝒱₀ (S d (cS L)) none) Set.univ
          (cc1__sc_gather (F := F) L nM (Memref.isWhole_whole _) sM (Memref.isWhole_whole _) oM (Memref.isWhole_whole _) iM (Memref.isWhole_whole _) cc1_scratch1 cc1_scoped0)
          fun _ => Back d L n s O W := by
  iintro ⟨Hlv, ⟨Hn, Hs, Ho⟩, Hsb, Hss, HO⟩
  ihave Hss' := (SparseCore.Cfg.scopedSems0_S_elim (Val := Elt F) d (cS L)) $$ Hss
  icases Hss' with ⟨Hown, Hvs⟩
  ihave Hown' := (Entails.of_eq (ownSems0_S (F := F) d (cS L))) $$ Hown
  icases Hown' with ⟨HA, HB, Hsems⟩
  ihave Hsb' := ((K (F := F)).scopedBufs_S_elim facts d (cS L)) $$ Hsb
  icases Hsb' with ⟨Hob, Hvb⟩
  ihave Hob' := (Entails.of_eq (ownBufs_S (F := F) d (cS L))) $$ Hob
  icases Hob' with ⟨⟨%fi, Hi⟩, Hbufs⟩
  imod (show _ ⊢ _ from batch_alloc' EC (thr d L) (sm := .dma cc1_scratch1.sem) (none : HIx 1) NR (DD d n s) (E := Set.univ)) $$ HA with Hbatch
  ihave Hn' := (nodes_split d n s) $$ Hn
  icases Hn' with ⟨Hnr, Hnp⟩
  ihave Hrows := (rows_split d n s fo) $$ [Hnp Ho]
  · isplitl [Hnp] <;> iassumption
  iapply (show _ ⊢ _ from (copies (d := d) (L := L) (n := n) (s := s) (fo := fo) (fi := fi) (R := Aside d L n s) (O := O) (W := W) hO hs).trans (wp_mono frame _ _ fun _ => back d L n s O W))
  unfold Aside
  isplitl [Hlv]; · iexact Hlv
  isplitl [HO]; · iexact HO
  isplitl [Hs]; · iexact Hs
  isplitl [Hi]; · iexact Hi
  isplitl [HB]; · iexact HB
  isplitl [Hrows]; · iexact Hrows
  isplitl [Hbatch]; · iexact Hbatch
  isplitl [Hnr]; · iexact Hnr
  isplitl [Hbufs]; · iexact Hbufs
  isplitl [Hsems]; · iexact Hsems
  isplitl [Hvb] <;> iassumption

end Cert.Proof.Sc

end
-- ==== Proof.Run.lean ====
/-
  The whole program's run: @main on the TensorCore (the bias reshaped, the ranking region, the SparseCore's gather, the
  result reshaped), the sequencer's obligation, and the final memory. Over any interpretation of the elements, given that
  every word of the selection names a node.
-/
module

public import proofs.«01_k».proof.Proof.Region
public import proofs.«01_k».proof.Proof.Sequencer

@[expose] public section

noncomputable section

namespace Cert.Proof.Sc

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays of @main, and what they hold -/

abbrev n' : DevRef τ sig := Proc.devRef .tc (main_arg0 : Ref sig .tc)
abbrev h' : DevRef τ sig := Proc.devRef .tc (main_arg1 : Ref sig .tc)
abbrev w' : DevRef τ sig := Proc.devRef .tc (main_arg2 : Ref sig .tc)
abbrev a' : DevRef τ sig := Proc.devRef .tc (main_arg3 : Ref sig .tc)
abbrev b' : DevRef τ sig := Proc.devRef .tc (main_v0 : Ref sig .tc)
abbrev s' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev opB : HloOp τ sig (Elt F) := StableHlo.reshape main_arg3 main_v0 (rfl : (.f32 : EltTy) = .f32) shapeCasts_S128_S1x128
abbrev opR : HloOp τ sig (Elt F) := StableHlo.reshape main_v2 main_v3 (rfl : (.f32 : EltTy) = .f32) shapeCasts_S64x128_S1x8192
abbrev S8 : Finset (DevRef τ sig) := {n', h', w', a', b', s', o', r'}

abbrev tl (d : Dev nD) (b : Ref sig .tc) : Loc nD τ sig := (SparseCore.T d).loc b

/-- The launch's arrays, the arrays with the bias reshaped, the selection, and the arrays after the gather. -/
def V0 (d : Dev nD) : Valuation τ sig (Elt F) := fun b => m (d, b)
def V1 (d : Dev nD) : Valuation τ sig (Elt F) := (opB (F := F)).result (V0 m d)
def Vc (d : Dev nD) (b : Ref sig .tc) : Buf (Elt F) (tl d b) := V1 m d (Proc.devRef .tc b)
def Sel (d : Dev nD) : Buf (Elt F) (sLoc d) := picked d (Vc m d)
def V2 (d : Dev nD) : Valuation τ sig (Elt F) := Function.update (Function.update (V1 m d) s' (Sel m d)) o' (Gath d (m (nLoc d)) (Sel m d))
/-- The result. -/
def Res (d : Dev nD) : Buf (Elt F) (tl d main_v3) := (opR (F := F)).result (V2 m d) r'

theorem held_S8 (d : Dev nD) (W : Valuation τ sig (Elt F)) :
    (held (T d) S8 W : sProp 𝕄)
      = iprop((tl d main_arg0 ↦{fullShare} W n') ∗ (tl d main_arg1 ↦{fullShare} W h') ∗ (tl d main_arg2 ↦{fullShare} W w') ∗ (tl d main_arg3 ↦{fullShare} W a')
          ∗ (tl d main_v0 ↦{fullShare} W b') ∗ (tl d main_v1 ↦{fullShare} W s') ∗ (tl d main_v2 ↦{fullShare} W o') ∗ (tl d main_v3 ↦{fullShare} W r')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S8 (V0 m d) := by
  rw [held_S8]
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem V1_ne (d : Dev nD) {x : DevRef τ sig} (h : x ∉ ({b'} : Finset (DevRef τ sig))) : V1 m d x = m (d, x) :=
  (opB (F := F)).result_of_not_mem _ h

theorem V2_ne (d : Dev nD) {x : DevRef τ sig} (hs : x ≠ s') (ho : x ≠ o') : V2 m d x = V1 m d x :=
  (Function.update_of_ne ho _ _).trans (Function.update_of_ne hs _ _)
theorem V2_s (d : Dev nD) : V2 m d s' = Sel m d := (Function.update_of_ne (show s' ≠ o' by decide) _ _).trans (Function.update_self _ _ _)
theorem V2_o (d : Dev nD) : V2 m d o' = Gath d (m (nLoc d)) (Sel m d) := Function.update_self _ _ _

/-! ## The handshakes' payloads and the sequencer's obligation -/

/-- The sequencer is handed the nodes, the selection and the result's array, and hands them back with the rows gathered. -/
def P : (K (F := F)).Pay (nD := nD) (Val := Elt F) (Name := ℕ) (U := UU) where
  st := fun _ d _ => iprop((nLoc d ↦{fullShare} m (nLoc d)) ∗ (sLoc d ↦{fullShare} Sel m d) ∗ ∃ f : Buf (Elt F) (oLoc d), oLoc d ↦{fullShare} f)
  dn := fun _ d _ => iprop((nLoc d ↦{fullShare} m (nLoc d)) ∗ (sLoc d ↦{fullShare} Sel m d) ∗ (oLoc d ↦{fullShare} Gath d (m (nLoc d)) (Sel m d)))
  go := fun _ _ _ _ => iprop(emp)
  td := fun _ _ _ _ => iprop(emp)
  x := fun _ _ => iprop(emp)

instance P_storable : (P m).IsStorable where
  st _ d _ := (inferInstance : BI.Storable (upEmb : UEmb _ 𝕄) iprop((nLoc d ↦{fullShare} m (nLoc d)) ∗ (sLoc d ↦{fullShare} Sel m d) ∗ ∃ f : Buf (Elt F) (oLoc d), oLoc d ↦{fullShare} f))
  dn _ d _ := (inferInstance : BI.Storable (upEmb : UEmb _ 𝕄) iprop((nLoc d ↦{fullShare} m (nLoc d)) ∗ (sLoc d ↦{fullShare} Sel m d) ∗ (oLoc d ↦{fullShare} Gath d (m (nLoc d)) (Sel m d))))
  go _ _ _ _ := (inferInstance : BI.Storable (upEmb : UEmb _ 𝕄) (iprop(emp)))
  td _ _ _ _ := (inferInstance : BI.Storable (upEmb : UEmb _ 𝕄) (iprop(emp)))

/-- The grid coordinate of the sequencer's core. -/
def coordsS (c : Fin (grid1.bound 0)) : grid1.Coords := fun | 0 => c | ⟨_ + 1, h⟩ => absurd h (Nat.not_lt.2 (Nat.le_add_left _ _))

theorem defs₀_scalar (c : Fin τ.nSC) : defs₀ (F := F) (.scScalar c) 1 ()
    = SparseCore.onCore hcore1 (fun c => cc1__sc_gather (coordsS c) nM (Memref.isWhole_whole _) sM (Memref.isWhole_whole _) oM (Memref.isWhole_whole _)
        iM (Memref.isWhole_whole _) cc1_scratch1 cc1_scoped0) ⟨⟩ c := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every word of the selection names a node. -/
def Names : Prop := ∀ (d : Dev nD) (r : ℕ) (h : r < 64), (sw d (Sel m d) r h).toNat < 32768

theorem gather_body (hn : Names m) (d : Dev nD) (L : grid1.Coords) (O : CellTallies nD τ sig (HIx 1)) (W : Waits sig (HIx 1)) (hO : ∀ g, O g none = 0) :
    iprop(levAts (K (F := F)).L (K (F := F)).lev ∗ emp
        ∗ ((nLoc d ↦{fullShare} m (nLoc d)) ∗ (sLoc d ↦{fullShare} Sel m d) ∗ ∃ f : Buf (Elt F) (oLoc d), oLoc d ↦{fullShare} f)
        ∗ scopedBufs (S d (cS L)) ∗ scopedSems0 (S d (cS L)) ∗ owes (S d (cS L)) O W)
      ⊢ wp frame (wpE (defs₀ (F := F)) 𝒱₀ (S d (cS L)) none) Set.univ
          (cc1__sc_gather L nM (Memref.isWhole_whole _) sM (Memref.isWhole_whole _) oM (Memref.isWhole_whole _) iM (Memref.isWhole_whole _) cc1_scratch1 cc1_scoped0)
          fun _ => Back d L (m (nLoc d)) (Sel m d) O W := by
  iintro ⟨#Hl, -, ⟨Hn, Hs, %f, Ho⟩, Hb, Hsem, HO⟩
  iapply (gather (d := d) (L := L) (n := m (nLoc d)) (s := Sel m d) (hs := hn d) (O := O) (W := W) (hO := hO) (fo := f))
  isplitr; · iexact Hl
  isplitl [Hn Hs Ho]
  · isplitl [Hn]; · iexact Hn
    isplitl [Hs]; · iexact Hs
    iexact Ho
  isplitl [Hb]; · iexact Hb
  isplitl [Hsem]; · iexact Hsem
  iexact HO

theorem back_post (d : Dev nD) (L : grid1.Coords) (O : CellTallies nD τ sig (HIx 1)) (W : Waits sig (HIx 1)) :
    Back d L (m (nLoc d)) (Sel m d) O W
      ⊢ iprop(((nLoc d ↦{fullShare} m (nLoc d)) ∗ (sLoc d ↦{fullShare} Sel m d) ∗ (oLoc d ↦{fullShare} Gath d (m (nLoc d)) (Sel m d)))
        ∗ scopedBufs (S d (cS L)) ∗ scopedSems0 (S d (cS L)) ∗ ∃ W', ⌜∀ p ∈ W', p ∈ W ∨ p.2 = none ∨ p.2 = some (0 : Fin 1)⌝ ∗ owes (S d (cS L)) O W') := by
  unfold Back
  exact obl_post

set_option maxRecDepth 20000 in
theorem scalarObl (hn : Names m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  exact (gather_body m hn d (coordsS ⟨_, hc⟩) O W hO).trans (wp_mono frame _ _ fun _ => back_post m d _ O W)

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The region's ghost state, on each device's TensorCore. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UP) : (ownU (a, ((b, 1) : UP × Counters)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

theorem ghosts : (BI.own (EP (initOf (Pipeline.cells (Pipeline.pin (pcfgs (F := F)) adm) cellOf_inj) (Pipeline.launchToks (Pipeline.pin (pcfgs (F := F)) adm) cellOf_inj))) : sProp 𝕄)
    ⊢ iprop(|==> bigSep Finset.univ fun d : Dev nD => G d) := by
  iintro H
  imod (Pipeline.fund_ghost (Pipeline.pin (pcfgs (F := F)) adm) EP cellOf_inj) $$ H with ⟨Hc, Ht⟩
  imodintro
  rw [bigSep_sep']
  have e1 (d : Dev nD) : (bigSep Finset.univ fun p : Fin 1 => Pipeline.cellsGhost (Pipeline.pin (pcfgs (F := F)) adm) EP p d : sProp 𝕄)
      = Pipeline.cellsGhost (Pipeline.pin (pcfgs (F := F)) adm) EP 0 d := bigSep_univ_of_subsingleton (0 : Fin 1)
  have e2 (d : Dev nD) : (bigSep Finset.univ fun p : Fin 1 => Pipeline.toksInit (Pipeline.pin (pcfgs (F := F)) adm) EP p d : sProp 𝕄)
      = Pipeline.toksInit (Pipeline.pin (pcfgs (F := F)) adm) EP 0 d := bigSep_univ_of_subsingleton (0 : Fin 1)
  simp only [e1, e2]
  isplitl [Hc]; · iexact Hc
  iexact Ht

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_split _ _) $$ Hu
  icases H with ⟨HH, HK⟩
  imod ghosts $$ HK with HG
  imodintro
  isplitl [HH]; · iexact HH
  isplitl [HG]; · iexact HG
  have e : (bigSep Finset.univ fun thr : Thread nD τ => bigSep Finset.univ fun q : Fin 1 => (P m).x q thr) = (iprop(emp) : sProp 𝕄) := by
    show (bigSep Finset.univ fun thr : Thread nD τ => bigSep Finset.univ fun q : Fin 1 => iprop(emp)) = (iprop(emp) : sProp 𝕄)
    rw [show (fun thr : Thread nD τ => bigSep Finset.univ fun q : Fin 1 => (iprop(emp) : sProp 𝕄)) = fun _ => iprop(emp) from funext fun _ => bigSep_emp_const _]
    exact bigSep_emp_const _
  rw [e]; iempintro

/-! ## @main -/

theorem st0_eq (d : Dev nD) : (bigSep Finset.univ fun c : Fin ((K (F := F)).nCore 0) => (P m).st 0 d c)
    = iprop((nLoc d ↦{fullShare} m (nLoc d)) ∗ (sLoc d ↦{fullShare} Sel m d) ∗ ∃ f : Buf (Elt F) (oLoc d), oLoc d ↦{fullShare} f) :=
  bigSep_univ_of_subsingleton (0 : Fin 1)
theorem dn0_eq (d : Dev nD) : (bigSep Finset.univ fun c : Fin ((K (F := F)).nCore 0) => (P m).dn 0 d c)
    = iprop((nLoc d ↦{fullShare} m (nLoc d)) ∗ (sLoc d ↦{fullShare} Sel m d) ∗ (oLoc d ↦{fullShare} Gath d (m (nLoc d)) (Sel m d))) :=
  bigSep_univ_of_subsingleton (0 : Fin 1)

theorem hB : (opB (F := F)).bufs ⊆ S8 := show ({a', b'} : Finset (DevRef τ sig)) ⊆ S8 by decide
theorem hR : (opR (F := F)).bufs ⊆ S8 := show ({o', r'} : Finset (DevRef τ sig)) ⊆ S8 by decide

/-- What @main leaves: the arguments as at launch, the result. -/
abbrev FIN (d : Dev nD) : sProp 𝕄 :=
  iprop((tl d main_arg0 ↦{fullShare} m (tl d main_arg0)) ∗ (tl d main_arg1 ↦{fullShare} m (tl d main_arg1)) ∗ (tl d main_arg2 ↦{fullShare} m (tl d main_arg2))
    ∗ (tl d main_arg3 ↦{fullShare} m (tl d main_arg3)) ∗ (tl d main_v3 ↦{fullShare} Res m d))

theorem held_V1 (d : Dev nD) : (held (T d) S8 ((opB (F := F)).result (V0 m d)) : sProp 𝕄)
    = iprop((tl d main_arg0 ↦{fullShare} m (tl d main_arg0)) ∗ (tl d main_arg1 ↦{fullShare} m (tl d main_arg1)) ∗ (tl d main_arg2 ↦{fullShare} m (tl d main_arg2))
        ∗ (tl d main_arg3 ↦{fullShare} m (tl d main_arg3)) ∗ (tl d main_v0 ↦{fullShare} Vc m d main_v0) ∗ (tl d main_v1 ↦{fullShare} Vc m d main_v1)
        ∗ (tl d main_v2 ↦{fullShare} V1 m d o') ∗ (tl d main_v3 ↦{fullShare} V1 m d r')) := by
  show held (T d) S8 (V1 m d) = _
  rw [held_S8, V1_ne m d (x := n') (by decide), V1_ne m d (x := h') (by decide), V1_ne m d (x := w') (by decide), V1_ne m d (x := a') (by decide)]
  rfl

theorem five_in (d : Dev nD) : five d (fun w => Vc m d (Pipeline.arrRef spec0 w))
    = iprop((tl d main_arg0 ↦{fullShare} m (tl d main_arg0)) ∗ (tl d main_arg1 ↦{fullShare} m (tl d main_arg1)) ∗ (tl d main_arg2 ↦{fullShare} m (tl d main_arg2))
        ∗ (tl d main_v0 ↦{fullShare} Vc m d main_v0) ∗ (tl d main_v1 ↦{fullShare} Vc m d main_v1)) := by
  unfold five
  dsimp only
  rw [show Vc m d (Pipeline.arrRef spec0 0) = m (tl d main_arg0) from V1_ne m d (x := n') (by decide),
    show Vc m d (Pipeline.arrRef spec0 1) = m (tl d main_arg1) from V1_ne m d (x := h') (by decide),
    show Vc m d (Pipeline.arrRef spec0 2) = m (tl d main_arg2) from V1_ne m d (x := w') (by decide)]

theorem five_out (d : Dev nD) : five d (fun w => (pdats (Vc m) 0 d).arrAt w cfg0.N)
    = iprop((tl d main_arg0 ↦{fullShare} m (tl d main_arg0)) ∗ (tl d main_arg1 ↦{fullShare} m (tl d main_arg1)) ∗ (tl d main_arg2 ↦{fullShare} m (tl d main_arg2))
        ∗ (tl d main_v0 ↦{fullShare} Vc m d main_v0) ∗ (sLoc d ↦{fullShare} Sel m d)) := by
  rw [five_post, show Vc m d main_arg0 = m (tl d main_arg0) from V1_ne m d (x := n') (by decide),
    show Vc m d main_arg1 = m (tl d main_arg1) from V1_ne m d (x := h') (by decide),
    show Vc m d main_arg2 = m (tl d main_arg2) from V1_ne m d (x := w') (by decide)]
  rfl

theorem held_V2 (d : Dev nD) : (held (T d) S8 (V2 m d) : sProp 𝕄)
    = iprop((nLoc d ↦{fullShare} m (nLoc d)) ∗ (tl d main_arg1 ↦{fullShare} m (tl d main_arg1)) ∗ (tl d main_arg2 ↦{fullShare} m (tl d main_arg2))
        ∗ (tl d main_arg3 ↦{fullShare} m (tl d main_arg3)) ∗ (tl d main_v0 ↦{fullShare} Vc m d main_v0) ∗ (sLoc d ↦{fullShare} Sel m d)
        ∗ (oLoc d ↦{fullShare} Gath d (m (nLoc d)) (Sel m d)) ∗ (tl d main_v3 ↦{fullShare} V1 m d r')) := by
  rw [held_S8, V2_s, V2_o, V2_ne m d (x := n') (by decide) (by decide), V2_ne m d (x := h') (by decide) (by decide), V2_ne m d (x := w') (by decide) (by decide),
    V2_ne m d (x := a') (by decide) (by decide), V2_ne m d (x := b') (by decide) (by decide), V2_ne m d (x := r') (by decide) (by decide),
    V1_ne m d (x := n') (by decide), V1_ne m d (x := h') (by decide), V1_ne m d (x := w') (by decide), V1_ne m d (x := a') (by decide)]
  rfl

theorem V2_arg (d : Dev nD) {x : DevRef τ sig} (hs : x ≠ s') (ho : x ≠ o') (hb : x ∉ ({b'} : Finset (DevRef τ sig))) (hr : x ∉ ({r'} : Finset (DevRef τ sig))) :
    (opR (F := F)).result (V2 m d) x = m (d, x) :=
  ((opR (F := F)).result_of_not_mem _ hr).trans ((V2_ne m d hs ho).trans (V1_ne m d hb))

theorem held_V3 (d : Dev nD) : (held (T d) S8 ((opR (F := F)).result (V2 m d)) : sProp 𝕄)
    ⊢ FIN m d := by
  rw [held_S8, V2_arg m d (x := n') (by decide) (by decide) (by decide) (by decide), V2_arg m d (x := h') (by decide) (by decide) (by decide) (by decide),
    V2_arg m d (x := w') (by decide) (by decide) (by decide) (by decide), V2_arg m d (x := a') (by decide) (by decide) (by decide) (by decide)]
  iintro ⟨H0, H1, H2, H3, -, -, -, Hr⟩
  isplitl [H0]; · iexact H0
  isplitl [H1]; · iexact H1
  isplitl [H2]; · iexact H2
  isplitl [H3]; · iexact H3
  iexact Hr

theorem ctx_levAts (κ : GSem nD τ sig → ℕ) : (K (F := F)).ctx EH (P m) κ ⊢ (levAts (K (F := F)).L (K (F := F)).lev : sProp 𝕄) := by
  unfold SparseCore.Cfg.ctx
  iintro ⟨Hl, -⟩; iexact Hl

/-- The thread state before the second call is what the TensorCore owes, and the rest. -/
theorem tcSt_split (d : Dev nD) : ∃ R : sProp 𝕄, (K (F := F)).tcSt EH d 0 = iprop(Owed d ∗ R) := ⟨_, rfl⟩

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HGc, HGt⟩
  iapply (wp_hlo_within 𝒱 (SparseCore.T d) none Set.univ (op := opB) (S := S8) hB (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨H0, H1, H2, H3, Hv0, Hv1, Hv2, Hv3⟩
  -- the region, from what the thread owes the second call
  obtain ⟨R, hR0⟩ := tcSt_split (F := F) d
  ihave Hst' := (Entails.of_eq hR0) $$ Hst
  icases Hst' with ⟨HO, Hst⟩
  iapply (show _ ⊢ _ from region (Vc m) d _)
  isplitr [H0 H1 H2 Hv0 Hv1 HO HGc HGt Hb]
  · iintro ⟨Hb, H5, HO⟩
    ihave Hh := (Entails.of_eq (five_out (F := F) m d)) $$ H5
    icases Hh with ⟨H0, H1, H2, Hv0, Hs⟩
    iapply ((K (F := F)).wp_run (D (F := F)) 𝒱 (EH := EH) (P := P m) κ d 0) $$ [Hst HO H0 Hs Hv2 Hb H1 H2 H3 Hv0 Hv3 Hts]
    isplitr; · iexact Hctx
    isplitl [Hst HO]
    · rw [show (K (F := F)).tcSt EH d ((0 : Fin 1) : ℕ) = _ from hR0]
      isplitl [HO]; · iexact HO
      iexact Hst
    isplitl [H0 Hs Hv2]
    · rw [st0_eq]
      isplitl [H0]; · iexact H0
      isplitl [Hs]; · iexact Hs
      iexists _; iexact Hv2
    iintro ⟨Hst, Hdn⟩
    ihave Hdn' := (Entails.of_eq (dn0_eq m d)) $$ Hdn
    icases Hdn' with ⟨H0, Hs, Hv2⟩
    iapply (wp_hlo_within 𝒱 (SparseCore.T d) none Set.univ (op := opR) (S := S8) hR (V := V2 m d)) $$ [Hb H0 H1 H2 H3 Hv0 Hs Hv2 Hv3]
    · isplitl [Hb]; · iexact Hb
      rw [held_V2]
      isplitl [H0]; · iexact H0
      isplitl [H1]; · iexact H1
      isplitl [H2]; · iexact H2
      isplitl [H3]; · iexact H3
      isplitl [Hv0]; · iexact Hv0
      isplitl [Hs]; · iexact Hs
      isplitl [Hv2]; · iexact Hv2
      iexact Hv3
    iintro ⟨Hb, Hheld⟩
    ihave Hf := (held_V3 (F := F) m d) $$ Hheld
    rw [wp_ret]; imodintro; imodintro
    isplitl [Hst]; · iexact Hst
    isplitl [Hf]; · iexact Hf
    isplitl [Hb] <;> iassumption
  isplitl [Hb]; · iexact Hb
  isplitl [H0 H1 H2 Hv0 Hv1 HO]
  · isplitr [HO]
    · rw [five_in]
      isplitl [H0]; · iexact H0
      isplitl [H1]; · iexact H1
      isplitl [H2]; · iexact H2
      isplitl [Hv0]; · iexact Hv0
      iexact Hv1
    iexact HO
  isplitr; · iapply (ctx_levAts m κ); iexact Hctx
  isplitl [HGc]; · iexact HGc
  iexact HGt

/-- What the claims read of device `d`'s final state. -/
def fq (d : Dev nD) (s' : Phys nD τ sig (Elt F)) : Prop :=
  s'.mem.mem (tl d main_v3) = Res m d ∧ s'.mem.mem (tl d main_arg0) = m (tl d main_arg0) ∧ s'.mem.mem (tl d main_arg1) = m (tl d main_arg1)
    ∧ s'.mem.mem (tl d main_arg2) = m (tl d main_arg2) ∧ s'.mem.mem (tl d main_arg3) = m (tl d main_arg3)

theorem hfin (d : Dev nD) (s' : Phys nD τ sig (Elt F)) : iprop(FIN m d ∗ SI s') ⊢ (⌜fq m d s'⌝ : sProp 𝕄) := by
  have agree {ℓ : Loc nD τ sig} (f : Buf (Elt F) ℓ) := persistent_entails_right (SI_pointsTo_agree (nD := nD) (τ := τ) (sig := sig) (Ix := HIx 1) (Val := Elt F) (Name := ℕ) (U := UU) (Lvl := ℕ)
    (st := s') (ℓ := ℓ) (I := Finset.univ) (q := fullShare) (f := f))
  iintro ⟨⟨H0, H1, H2, H3, Hr⟩, HSI⟩
  ihave H := (agree (m (tl d main_arg0))) $$ [HSI H0]
  · isplitl [HSI] <;> iassumption
  icases H with ⟨%h0, HSI, -⟩
  ihave H := (agree (m (tl d main_arg1))) $$ [HSI H1]
  · isplitl [HSI] <;> iassumption
  icases H with ⟨%h1, HSI, -⟩
  ihave H := (agree (m (tl d main_arg2))) $$ [HSI H2]
  · isplitl [HSI] <;> iassumption
  icases H with ⟨%h2, HSI, -⟩
  ihave H := (agree (m (tl d main_arg3))) $$ [HSI H3]
  · isplitl [HSI] <;> iassumption
  icases H with ⟨%h3, HSI, -⟩
  ihave H := (agree (Res m d)) $$ [HSI Hr]
  · isplitl [HSI] <;> iassumption
  icases H with ⟨%hr, -, -⟩
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i)⟩

/-! ## The run -/

def QC : PUnit × MemSt nD τ sig (Elt F) → Prop := fun r =>
  (∀ c : Dev nD, r.2.mem (tl c main_v3) = Res m c ∧ r.2.mem (tl c main_arg0) = m (tl c main_arg0) ∧ r.2.mem (tl c main_arg1) = m (tl c main_arg1)
    ∧ r.2.mem (tl c main_arg2) = m (tl c main_arg2) ∧ r.2.mem (tl c main_arg3) = m (tl c main_arg3)) ∧ r.2.sem = fun _ => 0

theorem run_main [∀ e, Nonempty (Elt F e)] (hn : Names m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hn)
    (fun q hq => match q with | 0 => nomatch hq)
    (fun q hq => match q with | 0 => nomatch hq)
    m ρ main G (FIN m) (u₀ (F := F)) (sep_elim_left.trans (hu₀ m)) (hmain m ρ) (fq m) (hfin m) (QC m) (fun _ h hz => ⟨h, hz⟩)

end Cert.Proof.Sc

end
-- ==== Proof.Order.lean ====
/- The order both programs pick rows by: a key, ties broken by position. What a stable sort of positions leaves in that
   order, the inverse of a sorting permutation, and the count of the positions before a given one. -/
module

public import Idealize.ShloMosaic.Lib.SortPrefix
public import Mathlib.Order.Fin.Basic
public import Mathlib.Order.WellFounded
public import Mathlib.Data.Fintype.Card
public import Mathlib.Order.Interval.Finset.Fin

@[expose] public section

namespace Cert.Proof.Order

open Idealize.ShloMosaic

/-- `i` comes before `j`: a smaller key, or the same key at an earlier position. -/
def Lex {n : Nat} {κ : Type} [LT κ] (key : Fin n → κ) (i j : Fin n) : Prop := key i < key j ∨ (key i = key j ∧ i < j)

theorem Lex.irrefl {n : Nat} {κ : Type} [LinearOrder κ] (key : Fin n → κ) (i : Fin n) : ¬ Lex key i i := by
  rintro (h | ⟨_, h⟩) <;> exact lt_irrefl _ h

theorem Lex.asymm {n : Nat} {κ : Type} [LinearOrder κ] {key : Fin n → κ} {i j : Fin n} (h : Lex key i j) : ¬ Lex key j i := by
  rcases h with h | ⟨e, h⟩ <;> rintro (h' | ⟨e', h'⟩)
  · exact lt_asymm h h'
  · exact absurd e' (ne_of_gt h)
  · exact absurd e (ne_of_gt h')
  · exact lt_asymm h h'

theorem Lex.total {n : Nat} {κ : Type} [LinearOrder κ] (key : Fin n → κ) {i j : Fin n} (h : i ≠ j) : Lex key i j ∨ Lex key j i := by
  rcases lt_trichotomy (key i) (key j) with h1 | h1 | h1
  · exact .inl (.inl h1)
  · rcases lt_or_gt_of_ne h with h2 | h2
    · exact .inl (.inr ⟨h1, h2⟩)
    · exact .inr (.inr ⟨h1.symm, h2⟩)
  · exact .inr (.inl h1)

/-- Inserting in list order asks only whether a LATER element is before an earlier one. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

section Sorted
variable {n : Nat} {κ : Type} [LinearOrder κ] (key : Fin n → κ)

/-- The position a stable sort by the key puts at each place. -/
def src : Fin n → Fin n := sortedFrom fun k k' => decide (key k < key k')

theorem src_injective : Function.Injective (src key) := sortedFrom_injective _

theorem src_surjective : Function.Surjective (src key) := sortedFrom_surjective _

/-- A stable sort by the key is the sort by key and then position. -/
theorem src_eq_lex :
    src key = sortedFrom fun k k' : Fin n => decide (key k < key k') || (decide (key k = key k') && decide (k < k')) := by
  funext k
  unfold src sortedFrom sortPositions
  have e := stableSort_congr_later (fun k k' : Fin n => decide (key k < key k'))
    (fun k k' : Fin n => decide (key k < key k') || (decide (key k = key k') && decide (k < k'))) (List.finRange n)
    ((List.pairwise_lt_finRange n).imp fun {a b} hab => by simp [not_lt_of_gt hab])
  simp only [List.get_eq_getElem, Fin.val_cast]
  congr 1

theorem src_lex {i j : Fin n} (h : i < j) : Lex key (src key i) (src key j) := by
  have hB := StrictTotalBefore.of_key_then_position (fun a b : κ => decide (a < b)) key (by simp)
    (by intro a b c h1 h2; simp only [decide_eq_true_eq] at *; exact h1.trans h2)
    (by intro a b; simp only [decide_eq_true_eq]; exact lt_trichotomy a b)
  have hn := sortedFrom_noInversion _ _ hB.asymm (fun _ _ h => h) hB.negTrans i j h
  rw [← src_eq_lex] at hn
  rcases Lex.total key (i := src key i) (j := src key j) (fun e => absurd (src_injective key e) (ne_of_lt h)) with h' | h'
  · exact h'
  · exfalso
    have : (decide (key (src key j) < key (src key i)) || (decide (key (src key j) = key (src key i)) && decide (src key j < src key i))) = true := by
      simpa [Lex] using h'
    rw [this] at hn; exact absurd hn (by decide)

/-- Places are in order exactly when the positions sorted there are. -/
theorem src_lex_iff {i j : Fin n} : Lex key (src key i) (src key j) ↔ i < j := by
  refine ⟨fun h => ?_, src_lex key⟩
  rcases lt_trichotomy i j with h' | h' | h'
  · exact h'
  · subst h'; exact absurd h (Lex.irrefl _ _)
  · exact absurd (src_lex key h') h.asymm

/-- With all keys different the sorted keys increase. -/
theorem src_strictMono (hk : Function.Injective key) : StrictMono fun i => key (src key i) := fun i j h => by
  rcases src_lex key h with h' | ⟨e, _⟩
  · exact h'
  · exact absurd (src_injective key (hk e)) (ne_of_lt h)

end Sorted

/-- The sort of a permutation's values by their size is its inverse. -/
theorem src_inverse {n : Nat} (σ : Fin n → Fin n) (hσ : Function.Injective σ) (i : Fin n) : σ (src σ i) = i := by
  have hb : Function.Surjective (fun i => σ (src σ i)) :=
    (Finite.injective_iff_surjective.mp hσ).comp (src_surjective σ)
  have := (StrictMono.range_inj (f := fun i => σ (src σ i)) (g := id) (src_strictMono σ hσ) strictMono_id).mp
    (by rw [hb.range_eq, Set.range_id])
  exact congrFun this i

section Prefix
variable {n k : Nat} {κ : Type} [LinearOrder κ] (key : Fin n → κ) (hk : k ≤ n)

/-- The rank of each position. -/
def rnk : Fin n → Fin n := src (src key)

/-- The first `k` positions, sorted by rank. -/
def ord : Fin k → Fin k := src fun j : Fin k => rnk key (j.castLE hk)

theorem rnk_lex_iff {i j : Fin n} : rnk key i < rnk key j ↔ Lex key i j := by
  have h := src_lex_iff key (i := rnk key i) (j := rnk key j)
  rw [rnk, src_inverse _ (src_injective key), src_inverse _ (src_injective key)] at h
  exact h.symm

theorem rnk_injective : Function.Injective (rnk key) := src_injective _

theorem ord_surjective : Function.Surjective (ord key hk) := src_surjective _

/-- Sorted by rank, the first `k` positions come in the order of their keys, ties by position. -/
theorem ord_lex_iff {i j : Fin k} : Lex (fun j : Fin k => key (j.castLE hk)) (ord key hk i) (ord key hk j) ↔ i < j := by
  have hm := src_strictMono (fun j : Fin k => rnk key (j.castLE hk))
    (fun a b h => Fin.castLE_injective hk (rnk_injective key h))
  rw [← hm.lt_iff_lt]
  show _ ↔ rnk key ((ord key hk i).castLE hk) < rnk key ((ord key hk j).castLE hk)
  rw [rnk_lex_iff]
  exact Iff.rfl

end Prefix

/-- Listing all positions in order, as many come before the `r`-th as places before `r`. -/
theorem card_before {k : Nat} (P : Fin k → Fin k → Prop) [DecidableRel P] (τ : Fin k → Fin k) (hτ : Function.Surjective τ)
    (h : ∀ i j, P (τ i) (τ j) ↔ i < j) (r : Fin k) : (Finset.univ.filter fun i => P i (τ r)).card = r.val := by
  have e : (Finset.univ.filter fun i => P i (τ r)) = (Finset.Iio r).image τ := by
    ext x
    obtain ⟨y, rfl⟩ := hτ x
    simp only [Finset.mem_filter, Finset.mem_univ, true_and, Finset.mem_image, Finset.mem_Iio, h]
    refine ⟨fun hy => ⟨y, hy, rfl⟩, ?_⟩
    rintro ⟨z, hz, e⟩
    rwa [← Finite.injective_iff_surjective.mpr hτ e]
  rw [e, Finset.card_image_of_injective _ (Finite.injective_iff_surjective.mpr hτ), Fin.card_Iio]

end Cert.Proof.Order
-- ==== Proof.Pick.lean ====
/- The row picker's value at the exact reading: the count of the earlier scores is a score's rank, and the picked word at
   place `r` is the position of that rank. -/
module

public import proofs.«01_k».proof.Proof.Rank
public import proofs.«01_k».proof.Proof.Order
public import Idealize.ShloMosaic.PureOps.Ideal
public import Idealize.ShloMosaic.PureOps.Ideal.Laws
public import Idealize.ShloMosaic.Lib.MatmulPlain
public import Idealize.ShloMosaic.Lib.ValueLayout
public import Idealize.ShloMosaic.Lib.ValueLayoutCasts

@[expose] public section

noncomputable section

namespace Cert.Proof.Pick

open Cert.KernelIdeal Cert.KernelIdeal.Gen Cert.Proof.Order
open Idealize.ShloMosaic Idealize.ShloMosaic.TcCoe Idealize.ShloMosaic.ValueIdx

/-! ## The picker's text, in parts -/

/-- The embedded row and the 64 scores. -/
def scores (v0 : FVec Ideal S64x128 .f32) (v1 : FVec Ideal S1x1024 .f32) (v2 : FVec Ideal S128x1024 .f32) (v3 : FVec Ideal S1x128 .f32) :
    FVec Ideal S1x64 .f32 :=
  matmul dot_S1x128_S64x128_S1x64_1_1_0_0_n_n none
    (addf (matmul dot_S1x1024_S128x1024_S1x128_1_1_0_0_n_n none v1 v2 (constant S1x128 .f32 0x00000000#32))
      (shapeCast S1x128 v3 shapeCasts_S1x128_S1x128)) v0 (constant S1x64 .f32 0x00000000#32)

/-- Which position comes before which. -/
def before (s : FVec Ideal S1x64 .f32) : IVec S64x64 1 :=
  ori (cmpf .olt (broadcastTo S64x64 (shapeCast S64x1 (transpose S64x1 [1, 0] s transposes_S1x64_p1_0_S64x1) shapeCasts_S64x1_S64x1) broadcasts_S64x1_S64x64)
      (broadcastTo S64x64 (shapeCast S1x64 s shapeCasts_S1x64_S1x64) broadcasts_S1x64_S64x64))
    (andi (cmpf .oeq (broadcastTo S64x64 (shapeCast S64x1 (transpose S64x1 [1, 0] s transposes_S1x64_p1_0_S64x1) shapeCasts_S64x1_S64x1) broadcasts_S64x1_S64x64)
      (broadcastTo S64x64 (shapeCast S1x64 s shapeCasts_S1x64_S1x64) broadcasts_S1x64_S64x64))
      (cmpi .slt (iota .tc S64x64 32 [0] iota_S64x64_d0_w32) (iota .tc S64x64 32 [1] iota_S64x64_d1_w32)))

/-- How many come before each. -/
def count (c : IVec S64x64 1) : FVec Ideal S64 .f32 :=
  multiReduction .add [0] S64 (sitofp .f32 (extui 32 c natLt_1_32)) 0x00000000#32 reduces_S64x64_S64 (.inl rfl) rfl

/-- Whose count is which place. -/
def placed (r : FVec Ideal S64 .f32) : IVec S64x64 1 :=
  cmpi .eq (fptosi 32 (broadcastTo S64x64 (shapeCast S1x64 (shapeCast S1x64 r shapeCasts_S64_S1x64) shapeCasts_S1x64_S1x64) broadcasts_S1x64_S64x64))
    (iota .tc S64x64 32 [0] iota_S64x64_d0_w32)

/-- The positions by place. -/
def listed (p : IVec S64x64 1) : IVec S1x64 32 :=
  fptosi 32 (matmul dot_S1x64_S64x64_S1x64_1_1_0_0_n_n (some .fp32) (sitofp .f32 (iota .tc S1x64 32 [1] iota_S1x64_d1_w32) : FVec Ideal S1x64 .f32)
    (sitofp .f32 (extui 32 p natLt_1_32) : FVec Ideal S64x64 .f32) (constant S1x64 .f32 0x00000000#32))

theorem pay_eq (v0 : FVec Ideal S64x128 .f32) (v1 : FVec Ideal S1x1024 .f32) (v2 : FVec Ideal S128x1024 .f32) (v3 : FVec Ideal S1x128 .f32) :
    k0_pay1 (F := Ideal) v0 v1 v2 v3 = listed (placed (count (before (scores v0 v1 v2 v3)))) := rfl

/-! ## Each part at an index -/

theorem scores_apply (v0 : FVec Ideal S64x128 .f32) (v1 : FVec Ideal S1x1024 .f32) (v2 : FVec Ideal S128x1024 .f32) (v3 : FVec Ideal S1x128 .f32) (J : Fin 64) :
    scores v0 v1 v2 v3 (ix2 (0 : Fin 1) J)
      = ∑ k : Fin 128, ((∑ l : Fin 1024, (v1 (ix2 (0 : Fin 1) l) : EReal) * v2 (ix2 k l)) + v3 (ix2 (0 : Fin 1) k)) * v0 (ix2 J k) := by
  have hz : (Ideal.ofBits .f32 0x00000000#32 : EReal) = 0 := Ideal.ofBits_zero_f32
  have e1 := Ideal.matmul_transposedRhs_apply (M := 1) (K := 128) (N := 64) (φ₁ := .f32) (φ₂ := .f32) none
    (addf (matmul dot_S1x1024_S128x1024_S1x128_1_1_0_0_n_n none v1 v2 (constant S1x128 .f32 0x00000000#32))
      (shapeCast S1x128 v3 shapeCasts_S1x128_S1x128)) v0 (constant S1x64 .f32 0x00000000#32) 0 J
  refine e1.trans ?_
  show Ideal.ofBits .f32 0x00000000#32 + _ = _
  rw [hz, zero_add]
  refine Finset.sum_congr rfl fun k _ => ?_
  have e2 := Ideal.matmul_transposedRhs_apply (M := 1) (K := 1024) (N := 128) (φ₁ := .f32) (φ₂ := .f32) none v1 v2 (constant S1x128 .f32 0x00000000#32) 0 k
  have e3 : shapeCast S1x128 v3 shapeCasts_S1x128_S1x128 = v3 := shapeCast_self v3 _
  rw [e3]
  refine congrArg (fun x : EReal => (x + v3 (ix2 (0 : Fin 1) k)) * v0 (ix2 J k)) (e2.trans ?_)
  show Ideal.ofBits .f32 0x00000000#32 + _ = _
  rw [hz, zero_add]

theorem word_slt : ∀ I J : Fin 64, IntOp.cmpi .slt (BitVec.ofNat 32 I.val) (BitVec.ofNat 32 J.val) = 1#1 ↔ I < J := by decide

theorem before_apply (s : FVec Ideal S1x64 .f32) (I J : Fin 64) :
    before s (ix2 I J) = 1#1 ↔ Lex (fun j : Fin 64 => (s (ix2 (0 : Fin 1) j) : EReal)) I J := by
  have ea : broadcastTo S64x64 (shapeCast S64x1 (transpose S64x1 [1, 0] s transposes_S1x64_p1_0_S64x1) shapeCasts_S64x1_S64x1) broadcasts_S64x1_S64x64 (ix2 I J)
      = s (ix2 (0 : Fin 1) I) := by
    rw [shapeCast_self]
    refine (broadcastTo_apply _ _ (ix2 I J) (ix2 I (0 : Fin 1)) fun ax => ?_).trans (transpose_ix2_apply s _ I (0 : Fin 1))
    match ax with
    | ⟨0, _⟩ => rfl
    | ⟨1, _⟩ => rfl
  have eb : broadcastTo S64x64 (shapeCast S1x64 s shapeCasts_S1x64_S1x64) broadcasts_S1x64_S64x64 (ix2 I J) = s (ix2 (0 : Fin 1) J) := by
    rw [shapeCast_self]
    exact broadcastTo_1b_ab_apply s _ I J
  show IntOp.ori (Ideal.cmp .olt (broadcastTo S64x64 _ _ (ix2 I J)) (broadcastTo S64x64 _ _ (ix2 I J)))
    (IntOp.andi (Ideal.cmp .oeq (broadcastTo S64x64 _ _ (ix2 I J)) (broadcastTo S64x64 _ _ (ix2 I J)))
      (IntOp.cmpi .slt (BitVec.ofNat 32 (0 * _ + I.val)) (BitVec.ofNat 32 (0 * _ + J.val)))) = 1#1 ↔ _
  rw [ea, eb, Nat.zero_mul, Nat.zero_mul, Nat.zero_add, Nat.zero_add]
  have hw := word_slt I J
  have bits : ∀ a b c : BitVec 1, IntOp.ori a (IntOp.andi b c) = 1#1 ↔ (a = 1#1 ∨ b = 1#1 ∧ c = 1#1) := by decide
  rw [bits, hw]
  have bool : ∀ (p : Prop) [Decidable p], BitVec.ofBool (decide p) = 1#1 ↔ p := fun p _ => by by_cases h : p <;> simp [h]
  unfold Cert.Proof.Order.Lex
  exact or_congr (bool _) (and_congr (bool _) Iff.rfl)

theorem sitofp_bit (c : BitVec 1) : (FloatOps.sitofp (F := Ideal) .f32 (c.setWidth 32) : EReal) = if c = 1#1 then 1 else 0 := by
  have : ∀ c : BitVec 1, c = 0#1 ∨ c = 1#1 := by decide
  show ((((c.setWidth 32).toInt : ℤ) : ℝ) : EReal) = _
  rcases this c with rfl | rfl
  · simp
  · have e : ((1#1 : BitVec 1).setWidth 32).toInt = 1 := by decide
    rw [e]; simp

theorem count_apply (c : IVec S64x64 1) (J : Fin 64) :
    count c (ix1 J) = (((Finset.univ.filter fun I : Fin 64 => c (ix2 I J) = 1#1).card : ℕ) : EReal) := by
  refine (Ideal.multiReduction_add_single _ _ _ _ _ (ix1 J)).trans ?_
  have e : ∀ k : Fin 64, reduces_S64x64_S64.lift (ix1 J) k = ix2 k J := fun k => by
    funext a
    match a with
    | ⟨0, _⟩ => exact Fin.ext rfl
    | ⟨1, _⟩ => exact Fin.ext rfl
  show (∑ k : Fin 64, (FloatOps.sitofp (F := Ideal) .f32 ((c (reduces_S64x64_S64.lift (ix1 J) k)).setWidth 32) : EReal)) = _
  simp only [e, sitofp_bit]
  rw [Finset.sum_boole]

theorem fptosi_nat (n : Nat) (hn : n < 2 ^ 31) : Ideal.fptosi 32 ((n : ℕ) : EReal) = BitVec.ofNat 32 n := by
  have e : ((n : ℕ) : EReal) = (((n : ℝ)) : EReal) := by norm_cast
  rw [e]
  unfold Ideal.fptosi
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  exact BitVec.ofInt_natCast 32 n

theorem word_eq : ∀ I J : Fin 64, IntOp.cmpi .eq (BitVec.ofNat 32 I.val) (BitVec.ofNat 32 J.val) = 1#1 ↔ I = J := by decide

theorem placed_apply (r : FVec Ideal S64 .f32) (R J t : Fin 64) (hr : r (ix1 J) = ((t.val : ℕ) : EReal)) :
    placed r (ix2 R J) = 1#1 ↔ t = R := by
  have eb : broadcastTo S64x64 (shapeCast S1x64 (shapeCast S1x64 r shapeCasts_S64_S1x64) shapeCasts_S1x64_S1x64) broadcasts_S1x64_S64x64 (ix2 R J)
      = r (ix1 J) := by
    rw [shapeCast_self]
    exact (broadcastTo_1b_ab_apply _ _ R J).trans (shapeCast_a_1a_apply r _ 0 J)
  show IntOp.cmpi .eq (Ideal.fptosi 32 (broadcastTo S64x64 _ _ (ix2 R J))) (BitVec.ofNat 32 (0 * _ + R.val)) = 1#1 ↔ _
  rw [eb, hr, fptosi_nat _ (by omega), Nat.zero_mul, Nat.zero_add]
  exact word_eq t R

theorem listed_apply (p : IVec S64x64 1) (R t : Fin 64) (hp : ∀ J, p (ix2 R J) = 1#1 ↔ J = t) :
    listed p (ix2 (0 : Fin 1) R) = BitVec.ofNat 32 t.val := by
  have e1 := Ideal.matmul_transposedRhs_apply (M := 1) (K := 64) (N := 64) (φ₁ := .f32) (φ₂ := .f32) (some .fp32)
    (sitofp .f32 (iota .tc S1x64 32 [1] iota_S1x64_d1_w32) : FVec Ideal S1x64 .f32)
    (sitofp .f32 (extui 32 p natLt_1_32) : FVec Ideal S64x64 .f32) (constant S1x64 .f32 0x00000000#32) 0 R
  have hz : (Ideal.ofBits .f32 0x00000000#32 : EReal) = 0 := Ideal.ofBits_zero_f32
  have e2 : matmul dot_S1x64_S64x64_S1x64_1_1_0_0_n_n (some .fp32) (sitofp .f32 (iota .tc S1x64 32 [1] iota_S1x64_d1_w32) : FVec Ideal S1x64 .f32)
    (sitofp .f32 (extui 32 p natLt_1_32) : FVec Ideal S64x64 .f32) (constant S1x64 .f32 0x00000000#32) (ix2 (0 : Fin 1) R) = ((t.val : ℕ) : EReal) := by
    refine e1.trans ?_
    show Ideal.ofBits .f32 0x00000000#32 + (∑ J : Fin 64, (FloatOps.sitofp (F := Ideal) .f32 (BitVec.ofNat 32 (0 * _ + J.val)) : EReal)
      * (FloatOps.sitofp (F := Ideal) .f32 ((p (ix2 R J)).setWidth 32) : EReal)) = _
    rw [hz, zero_add, Finset.sum_eq_single t]
    · rw [sitofp_bit, if_pos ((hp t).mpr rfl), mul_one, Nat.zero_mul, Nat.zero_add]
      show ((((BitVec.ofNat 32 t.val).toInt : ℤ) : ℝ) : EReal) = _
      have : ∀ t : Fin 64, (BitVec.ofNat 32 t.val).toInt = (t.val : ℤ) := by decide
      rw [this]
      norm_cast
    · intro J _ hJ
      rw [sitofp_bit, if_neg (fun h => hJ ((hp J).mp h)), mul_zero]
    · intro h; exact absurd (Finset.mem_univ _) h
  exact (congrArg (Ideal.fptosi 32) e2).trans (fptosi_nat _ (by omega))

/-- The picked words list the positions in order of score, ties by position. -/
theorem pay_apply (v0 : FVec Ideal S64x128 .f32) (v1 : FVec Ideal S1x1024 .f32) (v2 : FVec Ideal S128x1024 .f32) (v3 : FVec Ideal S1x128 .f32)
    (τ : Fin 64 → Fin 64) (hτ : Function.Surjective τ)
    (h : ∀ i j, Lex (fun j : Fin 64 => (scores v0 v1 v2 v3 (ix2 (0 : Fin 1) j) : EReal)) (τ i) (τ j) ↔ i < j) (R : Fin 64) :
    k0_pay1 (F := Ideal) v0 v1 v2 v3 (ix2 (0 : Fin 1) R) = BitVec.ofNat 32 (τ R).val := by
  classical
  rw [pay_eq]
  refine listed_apply _ R (τ R) fun J => ?_
  obtain ⟨i, rfl⟩ := hτ J
  have hc : count (before (scores v0 v1 v2 v3)) (ix1 (τ i)) = ((i.val : ℕ) : EReal) := by
    rw [count_apply, ← card_before _ τ hτ h i]
    simp only [before_apply]
  rw [placed_apply _ R (τ i) i hc]
  exact ⟨fun e => e ▸ rfl, fun e => Finite.injective_iff_surjective.mpr hτ e⟩

end Cert.Proof.Pick
-- ==== Proof.RefOrder.lean ====
/- The reference's row index: its three sorts, its negative-index corrections and its bounds test, read back to the
   order of the first 64 scores (Proof/Order.lean). -/
module

public import proofs.«01_k».proof.Proof.Gen.ReferenceIdeal.Run
public import proofs.«01_k».proof.Proof.Order
public import Idealize.ShloMosaic.PureOps.Ideal
public import Idealize.ShloMosaic.Lib.IdealHost
public import Idealize.ShloMosaic.Lib.WordCmp
public import Idealize.ShloMosaic.Lib.ValueIdx

@[expose] public section

noncomputable section

namespace Cert.Proof.Ref

open Cert.ReferenceIdeal Cert.ReferenceIdeal.Gen Cert.Proof.Order
open Idealize.ShloMosaic Idealize.ShloMosaic.TcCoe Idealize.ShloMosaic.ValueIdx

/-! ## The reference's program text, in parts -/

/-- The scores: every node's product with the embedded row. -/
def score (n : FVec Ideal S32768x128 .f32) (h : FVec Ideal S1x1024 .f32) (w : FVec Ideal S128x1024 .f32) (b : FVec Ideal S128 .f32) :
    FVec Ideal S32768 .f32 :=
  shapeCast _ (Host.dotGeneral dot_S32768x128_S128x1_S32768x1_1_0_0_1_n_n none n
    (transpose S128x1 [1, 0] (addf (Host.dotGeneral dot_S1x1024_S1024x128_S1x128_1_0_0_1_n_n none h
      (transpose S1024x128 [1, 0] w transposes_S128x1024_S1024x128_1_0)) (broadcastInDim S1x128 ![1] bcast_S128_S1x128_1 b))
      transposes_S1x128_S128x1_1_0)) shapeCasts_S32768x1_S32768

/-- The ranks of all scores, cut to the first 64 and sorted. -/
def ords (s : FVec Ideal S32768 .f32) : IVec S64 32 :=
  (Host.sort2 S64 0 comparator_i32_i32_d0 (extractStridedSlice S64 ![0] ((Host.sort2 S32768 0 comparator_i32_i32_d0
    ((Host.sort2 S32768 0 (comparator_f32_i32_d0 (F := Ideal)) s (iotaInDim S32768 32 0)).2) (iotaInDim S32768 32 0)).2) slices_S32768_S64_0)
    (iotaInDim S64 32 0)).2

/-- The counting row read at the sorted places. -/
def rows (v : IVec S64 32) : IVec S64 32 :=
  Host.gather gather_S64_S64x1_S64_n_0_n_n_0_1_1 (iotaInDim S64 32 0) (broadcastInDim S64x1 ![0] bcast_S64_S64x1_0
    (select (cmpi .slt v (broadcastInDim S64 ![] bcast_S_S64 (constantI S_ 32 0#32)))
      (addi v (broadcastInDim S64 ![] bcast_S_S64 (constantI S_ 32 64#32))) v))

/-- The row index with a negative one counted from the end, as a column. -/
def col (v : IVec S64 32) : IVec S64x1 32 :=
  broadcastInDim S64x1 ![0] bcast_S64_S64x1_0 (select (cmpi .slt v (broadcastInDim S64 ![] bcast_S_S64 (constantI S_ 32 0#32)))
      (addi v (broadcastInDim S64 ![] bcast_S_S64 (constantI S_ 32 32768#32))) v)

/-- The bounds test of each row index. -/
def inside (v : IVec S64x1 32) : IVec S64 1 :=
  Host.reduce IntOp.andi (andi (cmpi .sge v (broadcastInDim S64x1 ![] bcast_S_S64x1 (constantI S_ 32 0#32)))
    (cmpi .sle v (broadcastInDim S64x1 ![0, 1] bcast_S1x1_S64x1_0_1 (broadcastInDim S1x1 ![1] bcast_S1_S1x1_1 (constantI S1 32 32767#32)))))
    (constantI S_ 1 1#1) reducesTo_S64x1_S64_d1 h_S_

/-- The rows of the table at given indices. -/
def taken (n : FVec Ideal S32768x128 .f32) (v : IVec S64 32) : FVec Ideal S64x128 .f32 :=
  select (broadcastInDim S64x128 ![0] bcast_S64_S64x128_0 (inside (col v)))
    (Host.gather gather_S32768x128_S64x1_S64x128_1_0_n_n_0_1_1128 n (col v))
    (broadcastInDim S64x128 ![] bcast_S_S64x128 (constant S_ .f32 0x7FC00000#32))

theorem res_eq (m : (ℓ : Loc nD τ sig) → Buf (Elt Ideal) ℓ) (c : Dev nD) :
    Cert.ReferenceIdeal.Value.res_out0 m c
      = shapeCast S1x8192 (taken (m ((c.tc : Thread nD τ).loc main_arg0)) (rows (ords (score (m ((c.tc : Thread nD τ).loc main_arg0))
          (m ((c.tc : Thread nD τ).loc main_arg1)) (m ((c.tc : Thread nD τ).loc main_arg2)) (m ((c.tc : Thread nD τ).loc main_arg3))))))
          shapeCasts_S64x128_S1x8192 := rfl

/-! ## The sorts -/

theorem nat_slt {a b : Nat} (ha : a < 2 ^ 31) (hb : b < 2 ^ 31) :
    IntOp.cmpi .slt (BitVec.ofNat 32 a) (BitVec.ofNat 32 b) = 1#1 ↔ a < b := by
  have e : ∀ k : Nat, k < 2 ^ 31 → (BitVec.ofNat 32 k).toInt = (k : Int) := fun k hk => by
    rw [BitVec.toInt_eq_toNat_of_lt (by rw [BitVec.toNat_ofNat]; omega), BitVec.toNat_ofNat, Nat.mod_eq_of_lt (by omega)]
  show BitVec.ofBool ((BitVec.ofNat 32 a).slt (BitVec.ofNat 32 b)) = 1#1 ↔ _
  rw [BitVec.slt_eq_decide, e a ha, e b hb]
  by_cases h : a < b <;> simp [h]

theorem cmp_ideal (l r : Ideal .f32 × BitVec 32) : comparator_f32_i32_d0 (F := Ideal) l r = 1#1 ↔ (l.1 : EReal) < r.1 := by
  have hz : (FloatOps.ofBits (F := Ideal) .f32 0x00000000#32 : EReal) = 0 := Ideal.ofBits_zero_f32
  have fix : ∀ x : Ideal .f32, Scalar.select (FloatOps.cmpf .une x x) (FloatOps.ofBits (F := Ideal) .f32 0x7FC00000#32)
      (Scalar.select (FloatOps.cmpf .oeq x (FloatOps.ofBits (F := Ideal) .f32 0x00000000#32)) (FloatOps.ofBits (F := Ideal) .f32 0x00000000#32) x) = x := by
    intro x
    have h1 : FloatOps.cmpf (F := Ideal) .une x x = 0#1 := by
      show Ideal.cmp .une x x = 0#1
      simp [Ideal.cmp]
    rw [h1, hz]
    show Scalar.select (Ideal.cmp .oeq x 0) (0 : EReal) x = x
    by_cases h0 : (x : EReal) = 0
    · simp [Ideal.cmp, h0, Scalar.select]
    · simp [Ideal.cmp, h0, Scalar.select]
  show FloatOps.cmpfTotal (F := Ideal) .lt (Scalar.select _ _ _) (Scalar.select _ _ _) = 1#1 ↔ _
  rw [fix l.1, fix r.1]
  show Ideal.cmp .olt l.1 r.1 = 1#1 ↔ _
  unfold Ideal.cmp
  by_cases h : (l.1 : EReal) < r.1 <;> simp [h]

/-- A sort carrying the counting row, by a comparison that is the order of some key, leaves the sorted positions. -/
theorem sort2_iota {n : Nat} {α κ : Type} [LinearOrder κ] (cmp : α × BitVec 32 → α × BitVec 32 → BitVec 1)
    (x : (⟨1, ![n]⟩ : Shape).Idx → α) (key : Fin n → κ)
    (h : ∀ k k' : Fin n, cmp (x (Shape.Idx.ofFin k), iotaInDim ⟨1, ![n]⟩ 32 0 (Shape.Idx.ofFin k))
      (x (Shape.Idx.ofFin k'), iotaInDim ⟨1, ![n]⟩ 32 0 (Shape.Idx.ofFin k')) = 1#1 ↔ key k < key k') (k : Fin n) :
    (Host.sort2 ⟨1, ![n]⟩ 0 cmp x (iotaInDim ⟨1, ![n]⟩ 32 0)).2 (Shape.Idx.ofFin k) = BitVec.ofNat 32 (src key k).val := by
  have e : (fun k k' : Fin n => cmp (x (Shape.Idx.ofFin k), iotaInDim ⟨1, ![n]⟩ 32 0 (Shape.Idx.ofFin k))
      (x (Shape.Idx.ofFin k'), iotaInDim ⟨1, ![n]⟩ 32 0 (Shape.Idx.ofFin k')) == 1#1) = fun k k' => decide (key k < key k') := by
    funext k k'
    rw [Bool.eq_iff_iff]
    simpa using h k k'
  have e' : (Host.sort2 ⟨1, ![n]⟩ 0 cmp x (iotaInDim ⟨1, ![n]⟩ 32 0)).2 (Shape.Idx.ofFin k)
      = iotaInDim ⟨1, ![n]⟩ 32 0 (Shape.Idx.ofFin (sortedFrom (fun k k' : Fin n =>
          cmp (x (Shape.Idx.ofFin k), iotaInDim ⟨1, ![n]⟩ 32 0 (Shape.Idx.ofFin k))
            (x (Shape.Idx.ofFin k'), iotaInDim ⟨1, ![n]⟩ 32 0 (Shape.Idx.ofFin k')) == 1#1) k)) := by
    unfold Host.sort2
    simp
  rw [e', e]
  rfl

/-- The score of a node as a key. -/
def keyOf (s : FVec Ideal S32768 .f32) (j : Fin 32768) : EReal := s (Shape.Idx.ofFin j)

/-- The first 64 nodes in the order of their scores. -/
def ordOf (s : FVec Ideal S32768 .f32) : Fin 64 → Fin 64 := ord (keyOf s) (by omega)

/-- The first 64 entries of a row of words. -/
theorem first64 (x : IVec S32768 32) (k : Fin 64) :
    extractStridedSlice S64 ![0] x slices_S32768_S64_0 (Shape.Idx.ofFin k) = x (Shape.Idx.ofFin (k.castLE (by omega))) := by
  unfold extractStridedSlice
  congr 1
  funext a
  obtain rfl : a = 0 := Subsingleton.elim _ _
  apply Fin.ext
  show 0 + k.val = k.val
  omega

/-- A sort of distinct small words, carrying the counting row. -/
theorem sort_words {n p : Nat} (hp : p ≤ 2 ^ 31) (r : IVec ⟨1, ![n]⟩ 32) (ρ : Fin n → Fin p)
    (hr : ∀ k, r (Shape.Idx.ofFin k) = BitVec.ofNat 32 (ρ k).val) (k : Fin n) :
    (Host.sort2 ⟨1, ![n]⟩ 0 comparator_i32_i32_d0 r (iotaInDim ⟨1, ![n]⟩ 32 0)).2 (Shape.Idx.ofFin k) = BitVec.ofNat 32 (src ρ k).val :=
  sort2_iota comparator_i32_i32_d0 r ρ (fun k k' => by
      show IntOp.cmpi .slt _ _ = 1#1 ↔ _
      rw [hr, hr, nat_slt (lt_of_lt_of_le (ρ k).isLt hp) (lt_of_lt_of_le (ρ k').isLt hp)]
      exact Iff.rfl) k

/-- The first sort's row of positions. -/
def sorted1 (s : FVec Ideal S32768 .f32) : IVec S32768 32 :=
  (Host.sort2 S32768 0 (comparator_f32_i32_d0 (F := Ideal)) s (iotaInDim S32768 32 0)).2

/-- A sort of a long row of words. -/
def sorted2 (r : IVec S32768 32) : IVec S32768 32 := (Host.sort2 S32768 0 comparator_i32_i32_d0 r (iotaInDim S32768 32 0)).2

/-- A sort of a short row of words. -/
def sorted3 (r : IVec S64 32) : IVec S64 32 := (Host.sort2 S64 0 comparator_i32_i32_d0 r (iotaInDim S64 32 0)).2

theorem ords_eq (s : FVec Ideal S32768 .f32) :
    ords s = sorted3 (extractStridedSlice S64 ![0] (sorted2 (sorted1 s)) slices_S32768_S64_0) := rfl

theorem sorted1_apply (s : FVec Ideal S32768 .f32) (k : Fin 32768) : sorted1 s (Shape.Idx.ofFin k) = BitVec.ofNat 32 (src (keyOf s) k).val :=
  sort2_iota (comparator_f32_i32_d0 (F := Ideal)) s (keyOf s) (fun _ _ => cmp_ideal _ _) k

theorem sorted2_apply (r : IVec S32768 32) (ρ : Fin 32768 → Fin 32768) (hr : ∀ k, r (Shape.Idx.ofFin k) = BitVec.ofNat 32 (ρ k).val) (k : Fin 32768) :
    sorted2 r (Shape.Idx.ofFin k) = BitVec.ofNat 32 (src ρ k).val := sort_words (by norm_num) r ρ hr k

theorem sorted3_apply (r : IVec S64 32) (ρ : Fin 64 → Fin 32768) (hr : ∀ k, r (Shape.Idx.ofFin k) = BitVec.ofNat 32 (ρ k).val) (k : Fin 64) :
    sorted3 r (Shape.Idx.ofFin k) = BitVec.ofNat 32 (src ρ k).val := sort_words (by norm_num) r ρ hr k

theorem sorted3_first (r : IVec S32768 32) (ρ : Fin 32768 → Fin 32768) (hr : ∀ k, r (Shape.Idx.ofFin k) = BitVec.ofNat 32 (ρ k).val) (k : Fin 64) :
    sorted3 (extractStridedSlice S64 ![0] r slices_S32768_S64_0) (Shape.Idx.ofFin k)
      = BitVec.ofNat 32 (src (fun j : Fin 64 => ρ (j.castLE (by omega))) k).val :=
  sorted3_apply _ (fun j : Fin 64 => ρ (j.castLE (by omega))) (fun k => (first64 r k).trans (hr _)) k

theorem ranks_apply (s : FVec Ideal S32768 .f32) (k : Fin 32768) :
    sorted2 (sorted1 s) (Shape.Idx.ofFin k) = BitVec.ofNat 32 (rnk (keyOf s) k).val := by
  rw [rnk]
  exact sorted2_apply _ _ (sorted1_apply s) k

theorem ords_apply (s : FVec Ideal S32768 .f32) (k : Fin 64) : ords s (Shape.Idx.ofFin k) = BitVec.ofNat 32 (ordOf s k).val := by
  rw [ords_eq, ordOf, ord]
  exact sorted3_first _ _ (ranks_apply s) k

/-! ## The two reads -/

theorem ofNat_not_neg {k : Nat} (hk : k < 2 ^ 31) : IntOp.cmpi .slt (BitVec.ofNat 32 k) 0#32 = 0#1 := by
  have := (nat_slt hk (by omega : 0 < 2 ^ 31)).not.mpr (by omega)
  have two : ∀ v : BitVec 1, v ≠ 1#1 → v = 0#1 := by decide
  exact two _ this

theorem toInt_ofNat {k : Nat} (hk : k < 2 ^ 31) : (BitVec.ofNat 32 k).toInt = (k : Int) := by
  rw [BitVec.toInt_eq_toNat_of_lt (by rw [BitVec.toNat_ofNat]; omega), BitVec.toNat_ofNat, Nat.mod_eq_of_lt (by omega)]

/-- The word kept when it is not negative. -/
theorem select_not_neg (v w : IVec S64 32) (τ : Fin 64 → Fin 64) (hv : ∀ k, v (Shape.Idx.ofFin k) = BitVec.ofNat 32 (τ k).val) :
    select (cmpi .slt v (broadcastInDim S64 ![] bcast_S_S64 (constantI S_ 32 0#32))) w v = v := by
  funext j
  obtain ⟨k, rfl⟩ : ∃ k : Fin 64, j = Shape.Idx.ofFin k := ⟨j 0, Shape.Idx.eq_ofFin j⟩
  show Scalar.select (IntOp.cmpi .slt (v (Shape.Idx.ofFin k)) 0#32) (w (Shape.Idx.ofFin k)) (v (Shape.Idx.ofFin k)) = v (Shape.Idx.ofFin k)
  rw [hv, ofNat_not_neg (by omega)]
  rfl

/-- A row index laid down a column. -/
theorem column (v : IVec S64 32) (k : Fin 64) : broadcastInDim S64x1 ![0] bcast_S64_S64x1_0 v (ix2 k (0 : Fin 1)) = v (Shape.Idx.ofFin k) := by
  unfold broadcastInDim
  congr 1
  funext a
  obtain rfl : a = 0 := Subsingleton.elim _ _
  rfl

theorem gather_row (x : IVec S64 32) (idx : IVec S64x1 32) (k t : Fin 64)
    (ht : idx (ix2 k (0 : Fin 1)) = BitVec.ofNat 32 t.val) :
    Host.gather gather_S64_S64x1_S64_n_0_n_n_0_1_1 x idx (Shape.Idx.ofFin k) = x (Shape.Idx.ofFin t) := by
  unfold Host.gather
  congr 1
  funext a
  obtain rfl : a = 0 := Subsingleton.elim _ _
  apply Fin.ext
  show gather_S64_S64x1_S64_n_0_n_n_0_1_1.start (Shape.Idx.ofFin k) idx 0 + gather_S64_S64x1_S64_n_0_n_n_0_1_1.batchCoord (Shape.Idx.ofFin k) 0
    + gather_S64_S64x1_S64_n_0_n_n_0_1_1.offCoord (Shape.Idx.ofFin k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S64x1_S64_n_0_n_n_0_1_1.startIndexMap from List.mem_singleton.mpr rfl)]
  have hsi : gather_S64_S64x1_S64_n_0_n_n_0_1_1.siIdx (Shape.Idx.ofFin k) ⟨List.idxOf (0 : Fin 1) gather_S64_S64x1_S64_n_0_n_n_0_1_1.startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi, ht, toInt_ofNat (by omega)]
  show min (t.val : Int).toNat 63 = t.val
  have := t.isLt
  rw [Int.toNat_natCast, Nat.min_eq_left (by omega)]

theorem gather_table (x : FVec Ideal S32768x128 .f32) (idx : IVec S64x1 32) (k : Fin 64) (c : Fin 128) (t : Fin 32768)
    (ht : idx (ix2 k (0 : Fin 1)) = BitVec.ofNat 32 t.val) :
    Host.gather gather_S32768x128_S64x1_S64x128_1_0_n_n_0_1_1128 x idx (ix2 k c) = x (ix2 t c) := by
  unfold Host.gather
  congr 1
  funext a
  refine Fin.ext ?_
  show gather_S32768x128_S64x1_S64x128_1_0_n_n_0_1_1128.start (ix2 k c) idx a + gather_S32768x128_S64x1_S64x128_1_0_n_n_0_1_1128.batchCoord (ix2 k c) a
    + gather_S32768x128_S64x1_S64x128_1_0_n_n_0_1_1128.offCoord (ix2 k c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32768x128_S64x1_S64x128_1_0_n_n_0_1_1128.startIndexMap from List.mem_singleton.mpr rfl)]
    have hsi : gather_S32768x128_S64x1_S64x128_1_0_n_n_0_1_1128.siIdx (ix2 k c)
        ⟨List.idxOf (0 : Fin 2) gather_S32768x128_S64x1_S64x128_1_0_n_n_0_1_1128.startIndexMap,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi, ht, toInt_ofNat (by omega)]
    show min (t.val : Int).toNat 32767 = t.val
    have := t.isLt
    rw [Int.toNat_natCast, Nat.min_eq_left (by omega)]
  · unfold GatherDims.start
    rw [dif_neg (show ¬ (1 : Fin 2) ∈ gather_S32768x128_S64x1_S64x128_1_0_n_n_0_1_1128.startIndexMap from by decide)]
    unfold GatherDims.offCoord
    rw [dif_pos (by decide)]
    simp only [Nat.zero_add, Nat.add_zero]
    rfl

theorem rows_apply (v : IVec S64 32) (τ : Fin 64 → Fin 64) (hv : ∀ k, v (Shape.Idx.ofFin k) = BitVec.ofNat 32 (τ k).val) (k : Fin 64) :
    rows v (Shape.Idx.ofFin k) = BitVec.ofNat 32 (τ k).val := by
  unfold rows
  rw [select_not_neg v _ τ hv, gather_row _ _ k (τ k) ((column v k).trans (hv k))]
  rfl

theorem foldl_one {ι : Type} (x : ι → BitVec 1) (l : List ι) (hx : ∀ i, x i = 1#1) : l.foldl (fun r i => IntOp.andi r (x i)) 1#1 = 1#1 := by
  induction l with
  | nil => rfl
  | cons a l ih =>
    rw [List.foldl_cons, hx]
    exact ih

/-- Row indices below the table's height pass the bounds test. -/
theorem inside_eq (v : IVec S64x1 32) (τ : Fin 64 → Fin 64) (hv : ∀ k, v (ix2 k (0 : Fin 1)) = BitVec.ofNat 32 (τ k).val) (j : S64.Idx) :
    inside v j = 1#1 := by
  unfold inside Host.reduce
  refine foldl_one (fun n => andi (cmpi .sge v (broadcastInDim S64x1 ![] bcast_S_S64x1 (constantI S_ 32 0#32)))
    (cmpi .sle v (broadcastInDim S64x1 ![0, 1] bcast_S1x1_S64x1_0_1 (broadcastInDim S1x1 ![1] bcast_S1_S1x1_1 (constantI S1 32 32767#32))))
    (S64x1.rowMajor.symm n)) _ fun n => ?_
  generalize S64x1.rowMajor.symm n = i
  obtain ⟨k, rfl⟩ : ∃ k : Fin 64, i = ix2 k (0 : Fin 1) := ⟨i 0, by
    funext a
    match a with
    | ⟨0, _⟩ => rfl
    | ⟨1, h⟩ => exact Fin.ext (by have h1 := (i ⟨1, h⟩).isLt; have h2 : (i ⟨1, h⟩).val < 1 := h1; show (i ⟨1, h⟩).val = 0; omega)⟩
  show IntOp.andi (IntOp.cmpi .sge (v (ix2 k (0 : Fin 1))) 0#32) (IntOp.cmpi .sle (v (ix2 k (0 : Fin 1))) 32767#32) = 1#1
  rw [hv]
  generalize τ k = t
  revert t
  decide

theorem taken_apply (n : FVec Ideal S32768x128 .f32) (v : IVec S64 32) (τ : Fin 64 → Fin 64)
    (hv : ∀ k, v (Shape.Idx.ofFin k) = BitVec.ofNat 32 (τ k).val) (k : Fin 64) (c : Fin 128) :
    taken n v (ix2 k c) = n (ix2 ((τ k).castLE (by omega)) c) := by
  have hc : ∀ k, col v (ix2 k (0 : Fin 1)) = BitVec.ofNat 32 (τ k).val := fun k => by
    unfold col
    rw [select_not_neg v _ τ hv, column, hv]
  have hi : broadcastInDim S64x128 ![0] bcast_S64_S64x128_0 (inside (col v)) (ix2 k c) = 1#1 := by
    unfold broadcastInDim
    exact inside_eq (col v) τ hc _
  show Scalar.select (broadcastInDim S64x128 ![0] bcast_S64_S64x128_0 (inside (col v)) (ix2 k c)) _ _ = _
  rw [hi, gather_table n (col v) k c ((τ k).castLE (by omega)) (hc k)]
  rfl

end Cert.Proof.Ref
-- ==== Proof.RefScore.lean ====
/- The reference's scores at an index: a node's product with the embedded row. -/
module

public import proofs.«01_k».proof.Proof.RefOrder
public import Idealize.ShloMosaic.Lib.MatmulPlain
public import Idealize.ShloMosaic.Lib.KernelVsHost
public import Idealize.ShloMosaic.Lib.ValueLayout
public import Idealize.ShloMosaic.Lib.ValueLayoutCasts

@[expose] public section

noncomputable section

namespace Cert.Proof.Ref

open Cert.ReferenceIdeal Cert.ReferenceIdeal.Gen Cert.Proof.Order
open Idealize.ShloMosaic Idealize.ShloMosaic.TcCoe Idealize.ShloMosaic.ValueIdx

theorem ofFin_ix1 {n : ℕ} (j : Fin n) : Shape.Idx.ofFin j = ix1 j := (Shape.Idx.eq_ofFin (ix1 j)).symm

theorem dot_plain {M K N : ℕ} (l : FVec Ideal ⟨2, ![M, K]⟩ .f32) (r : FVec Ideal ⟨2, ![K, N]⟩ .f32) (i : Fin M) (j : Fin N) :
    (Host.dotGeneral (DotDims.plain M K N) none l r : FVec Ideal ⟨2, ![M, N]⟩ .f32) (ix2 i j) = ∑ k : Fin K, (l (ix2 i k) : EReal) * r (ix2 k j) := by
  rw [← matmul_zero_eq_dotGeneral]
  refine (Ideal.matmul_plain_apply (φ₁ := .f32) (φ₂ := .f32) none l r _ i j).trans ?_
  show Ideal.ofBits .f32 0x00000000#32 + _ = _
  rw [Ideal.ofBits_zero_f32, zero_add]

theorem score_apply (n : FVec Ideal S32768x128 .f32) (h : FVec Ideal S1x1024 .f32) (w : FVec Ideal S128x1024 .f32) (b : FVec Ideal S128 .f32) (j : Fin 32768) :
    score n h w b (Shape.Idx.ofFin j)
      = ∑ k : Fin 128, (n (ix2 j k) : EReal) * ((∑ l : Fin 1024, (h (ix2 (0 : Fin 1) l) : EReal) * w (ix2 k l)) + b (ix1 k)) := by
  unfold score
  rw [Cert.Proof.Ref.ofFin_ix1 j]
  refine (shapeCast_apply _ _ (ix1 j) (ix2 j (0 : Fin 1)) (by
    rw [Shape.rowMajor_val_two, Shape.rowMajor_val_one]
    show j.val * 1 + 0 = j.val
    omega)).trans ?_
  refine (dot_plain (M := 32768) (K := 128) (N := 1) n _ j 0).trans ?_
  refine Finset.sum_congr rfl fun k _ => congrArg (fun x : EReal => (n (ix2 j k) : EReal) * x) ?_
  refine (transpose_ix2_apply _ _ k (0 : Fin 1)).trans ?_
  have e1 := dot_plain (M := 1) (K := 1024) (N := 128) h (transpose S1024x128 [1, 0] w transposes_S128x1024_S1024x128_1_0) 0 k
  have e2 : broadcastInDim S1x128 ![1] bcast_S128_S1x128_1 b (ix2 (0 : Fin 1) k) = b (ix1 k) :=
    broadcastInDim_apply ![1] bcast_S128_S1x128_1 b _ _ fun a => by
      match a with
      | ⟨0, _⟩ => rfl
  refine congrArg₂ (fun x y : EReal => x + y) (e1.trans ?_) e2
  exact Finset.sum_congr rfl fun l _ => congrArg (fun x : EReal => (h (ix2 (0 : Fin 1) l) : EReal) * x) (transpose_ix2_apply w _ l k)

end Cert.Proof.Ref
-- ==== Proof.Value.lean ====
/- The kernel's result at the exact reading is the reference's: the selection lists the first 64 nodes in the reference's
   order, so every word names a node, and the gathered rows are the reference's. -/
module

public import proofs.«01_k».proof.Proof.Run
public import proofs.«01_k».proof.Proof.Pick
public import proofs.«01_k».proof.Proof.RefScore

@[expose] public section

noncomputable section

namespace Cert.Proof.Val

open Cert.KernelIdeal Cert.KernelIdeal.Gen Cert.Proof.Order Cert.Proof.Sc Cert.Proof.Pick
open Idealize.ShloMosaic Idealize.ShloMosaic.TcCoe Idealize.ShloMosaic.ValueIdx

/-! ## The operands as staged -/

section Staged

variable (c : Dev nD) (V : (b : Ref sig .tc) → Buf (Elt Ideal) ((c : Thread nD τ).loc b))

theorem staged_1 : stgd c V (1 : Fin 5) = (V main_arg1 : S1x1024.Idx → EReal) := by
  have hz : (fun a => (win0_1.index t0_0) a * main_arg1.ty.shape.size a) = fun _ => 0 := funext fun a => by fin_cases a <;> decide
  exact Memref.read_access_unit_zero (Elt Ideal) main_arg1 hz (fun a => by fin_cases a <;> decide) (V main_arg1)
theorem staged_2 : stgd c V (2 : Fin 5) = (V main_arg2 : S128x1024.Idx → EReal) := by
  have hz : (fun a => (win0_2.index t0_0) a * main_arg2.ty.shape.size a) = fun _ => 0 := funext fun a => by fin_cases a <;> decide
  exact Memref.read_access_unit_zero (Elt Ideal) main_arg2 hz (fun a => by fin_cases a <;> decide) (V main_arg2)
theorem staged_3 : stgd c V (3 : Fin 5) = (V main_v0 : S1x128.Idx → EReal) := by
  have hz : (fun a => (win0_3.index t0_0) a * main_v0.ty.shape.size a) = fun _ => 0 := funext fun a => by fin_cases a <;> decide
  exact Memref.read_access_unit_zero (Elt Ideal) main_v0 hz (fun a => by fin_cases a <;> decide) (V main_v0)
theorem staged_0 (J : Fin 64) (k : Fin 128) :
    (stgd c V (0 : Fin 5) : S64x128.Idx → EReal) (ix2 J k) = (V main_arg0 : S32768x128.Idx → EReal) (ix2 (J.castLE (by omega) : Fin 32768) k) := by
  show (V main_arg0 : S32768x128.Idx → EReal) _ = _
  refine congrArg (V main_arg0 : S32768x128.Idx → EReal) (funext fun a => Fin.ext ?_)
  match a with
  | ⟨0, _⟩ => show 0 + 1 * J.val = J.val; omega
  | ⟨1, _⟩ => show 0 + 1 * k.val = k.val; omega

end Staged

/-! ## The selection -/

variable (m : (ℓ : Loc nD τ sig) → Buf (Elt Ideal) ℓ)

/-- The launch's arrays: the nodes, the row, the weights, the bias. -/
abbrev nodes (d : Dev nD) : S32768x128.Idx → EReal := m (tl d main_arg0)
abbrev hid (d : Dev nD) : S1x1024.Idx → EReal := m (tl d main_arg1)
abbrev wts (d : Dev nD) : S128x1024.Idx → EReal := m (tl d main_arg2)
abbrev bias (d : Dev nD) : S128.Idx → EReal := m (tl d main_arg3)

theorem bias_row (d : Dev nD) (k : Fin 128) : (Vc m d main_v0 : S1x128.Idx → EReal) (ix2 (0 : Fin 1) k) = bias m d (ix1 k) := by
  have e : (Vc m d main_v0 : S1x128.Idx → EReal) = shapeCast S1x128 (bias m d) shapeCasts_S128_S1x128 := by
    unfold Vc V1 V0
    exact StableHlo.reshape_result _ _ _ _ _ _ _
  rw [e]
  exact shapeCast_a_1a_apply _ _ 0 k

/-- The reference's scores at the launch's arrays. -/
abbrev sc (d : Dev nD) : FVec Ideal Cert.ReferenceIdeal.S32768 .f32 := Cert.Proof.Ref.score (nodes m d) (hid m d) (wts m d) (bias m d)

theorem sel_apply (d : Dev nD) (R : Fin 64) : (Sel m d : S1x64.Idx → BitVec 32) (ix2 (0 : Fin 1) R) = BitVec.ofNat 32 (Cert.Proof.Ref.ordOf (sc m d) R).val := by
  have key : (fun j : Fin 64 => (scores (stgd d (Vc m d) (0 : Fin 5)) (stgd d (Vc m d) (1 : Fin 5)) (stgd d (Vc m d) (2 : Fin 5)) (stgd d (Vc m d) (3 : Fin 5))
      (ix2 (0 : Fin 1) j) : EReal)) = fun j : Fin 64 => Cert.Proof.Ref.keyOf (sc m d) (j.castLE (by omega)) := by
    funext j
    refine (scores_apply _ _ _ _ j).trans ?_
    unfold Cert.Proof.Ref.keyOf
    refine Eq.trans ?_ (Cert.Proof.Ref.score_apply _ _ _ _ _).symm
    refine Finset.sum_congr rfl fun k _ => ?_
    have e1 : stgd d (Vc m d) (1 : Fin 5) = hid m d := (staged_1 d (Vc m d)).trans (V1_ne m d (x := h') (by decide))
    have e2 : stgd d (Vc m d) (2 : Fin 5) = wts m d := (staged_2 d (Vc m d)).trans (V1_ne m d (x := w') (by decide))
    have e3 : (stgd d (Vc m d) (3 : Fin 5) : S1x128.Idx → EReal) (ix2 (0 : Fin 1) k) = bias m d (ix1 k) := by
      rw [staged_3]; exact bias_row m d k
    have e0 : (stgd d (Vc m d) (0 : Fin 5) : S64x128.Idx → EReal) (ix2 j k) = nodes m d (ix2 (j.castLE (by omega) : Fin 32768) k) := by
      refine (staged_0 d (Vc m d) j k).trans (congrFun (V1_ne m d (x := n') (by decide)) _)
    rw [e1, e2]
    refine (congrArg₂ (fun x y : EReal => ((∑ l : Fin 1024, hid m d (ix2 (0 : Fin 1) l) * wts m d (ix2 k l)) + x) * y) e3 e0).trans ?_
    exact mul_comm _ _
  refine pay_apply _ _ _ _ (Cert.Proof.Ref.ordOf (sc m d)) ?_ ?_ R
  · unfold Cert.Proof.Ref.ordOf; exact ord_surjective _ _
  · rw [key]; unfold Cert.Proof.Ref.ordOf; exact fun i j => ord_lex_iff _ _

theorem sw_sel (d : Dev nD) (R : Fin 64) : sw d (Sel m d) R.val R.isLt = BitVec.ofNat 32 (Cert.Proof.Ref.ordOf (sc m d) R).val := by
  refine Eq.trans ?_ (sel_apply m d R)
  exact congrArg (Sel m d : S1x64.Idx → BitVec 32) (funext fun a => by match a with | ⟨0, _⟩ => rfl | ⟨1, _⟩ => rfl)

theorem names : Names m := fun d r h => by
  rw [sw_sel m d ⟨r, h⟩, BitVec.toNat_ofNat]
  omega

/-! ## The result -/

theorem rowOf_pos (t : Fin 64) : rowOf (BitVec.ofNat 32 t.val) = t.castLE (by omega) := by
  refine Fin.ext ?_
  show (BitVec.ofNat 32 t.val).toNat % 32768 = t.val
  rw [BitVec.toNat_ofNat]
  omega

theorem gath_eq (d : Dev nD) : (Gath d (m (nLoc d)) (Sel m d) : S64x128.Idx → EReal)
    = Cert.Proof.Ref.taken (nodes m d) (Cert.Proof.Ref.rows (Cert.Proof.Ref.ords (sc m d))) := by
  funext i
  obtain ⟨r, k, rfl⟩ : ∃ (r : Fin 64) (k : Fin 128), i = ix2 r k := ⟨i 0, i 1, funext fun a => by match a with | ⟨0, _⟩ => rfl | ⟨1, _⟩ => rfl⟩
  rw [Cert.Proof.Ref.taken_apply _ _ (Cert.Proof.Ref.ordOf (sc m d)) (fun k => Cert.Proof.Ref.rows_apply _ _ (Cert.Proof.Ref.ords_apply (sc m d)) k)]
  have e := sw_sel m d r
  show nodes m d (ix2 (rowOf (sw d (Sel m d) r.val r.isLt)) k) = _
  rw [e, rowOf_pos]

theorem res_eq_ref (d : Dev nD) : (Res m d : S1x8192.Idx → EReal)
    = shapeCast S1x8192 (Cert.Proof.Ref.taken (nodes m d) (Cert.Proof.Ref.rows (Cert.Proof.Ref.ords (sc m d)))) shapeCasts_S64x128_S1x8192 := by
  rw [← gath_eq]
  have e : (Res m d : S1x8192.Idx → EReal) = shapeCast S1x8192 (V2 m d o' : S64x128.Idx → EReal) shapeCasts_S64x128_S1x8192 := by
    unfold Res
    exact StableHlo.reshape_result _ _ _ _ _ _ _
  rw [e, V2_o]

end Cert.Proof.Val
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Value

@[expose] public section

noncomputable section

namespace Cert.Proof

open Idealize.ShloMosaic Idealize.ShloMosaic.TcCoe Idealize.SL.Sem

/-- The kernel's run at the exact reading. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (Sc.QC m) :=
  Sc.run_main m g (Val.names m)

theorem claim : Cert.Claim := by
  refine ⟨Cert.KernelIdeal.Gen.facts, Cert.ReferenceIdeal.Gen.facts, ?_, ?_, ?_⟩
  · exact fun m g _ => (θ_run Cert.KernelIdeal.defs _ _).mono (fun r h => ⟨fun c => (h.1 c).2, h.2⟩) (kernel_run m g)
  · exact fun m ρ _ => (θ_run Cert.ReferenceIdeal.defs _ _).mono
      (fun r h => ⟨fun c => (h c).2, Idealize.ShloMosaic.sem_eq_zero_of_no_sems (by decide) r.2⟩) (Cert.ReferenceIdeal.Value.run (F := Ideal) m ρ)
  · intro m g m' g' _ e
    refine ⟨fun c => Sc.Res m c, ?_, ?_⟩
    · exact (θ_run Cert.KernelIdeal.defs _ _).mono (fun r h c => h.1 c) (kernel_run m g)
    · refine (θ_run Cert.ReferenceIdeal.defs _ _).mono (fun r h c => ⟨(h c).1.trans ?_, (h c).2⟩) (Cert.ReferenceIdeal.Value.run (F := Ideal) m' g')
      obtain ⟨e0, e1, e2, e3⟩ := e c
      refine (Ref.res_eq m' c).trans ?_
      rw [e0, e1, e2, e3]
      exact (Val.res_eq_ref m c).symm

end Cert.Proof
